-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_is_finite [hPre_x_is_finite : Cert.Pre_x_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_is_finite [hPre_x_is_finite : Cert.Pre_x_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_x_is_finite [hKernelIdeal : Cert.KernelIdeal.Facts] [hPre_x_is_finite : Cert.Pre_x_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_x_is_finite [hReferenceIdeal : Cert.ReferenceIdeal.Facts] [hPre_x_is_finite : Cert.Pre_x_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_x_is_finite [hKernelIdeal : Cert.KernelIdeal.Facts] [hReferenceIdeal : Cert.ReferenceIdeal.Facts] [hPre_x_is_finite : Cert.Pre_x_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_x_is_finite : Cert.Pre_x_is_finite.Facts),
    quiescent_Kernel (hKernel := hKernel)
    ∧ quiescent_KernelIdeal (hKernelIdeal := hKernelIdeal)
    ∧ quiescent_KernelIdeal_pre_x_is_finite (hKernelIdeal := hKernelIdeal) (hPre_x_is_finite := hPre_x_is_finite)
    ∧ quiescent_ReferenceIdeal (hReferenceIdeal := hReferenceIdeal)
    ∧ quiescent_ReferenceIdeal_pre_x_is_finite (hReferenceIdeal := hReferenceIdeal) (hPre_x_is_finite := hPre_x_is_finite)
    ∧ preserves_Kernel_KernelIdeal
    ∧ algebraic_KernelIdeal_ReferenceIdeal_pre_x_is_finite (hKernelIdeal := hKernelIdeal) (hReferenceIdeal := hReferenceIdeal) (hPre_x_is_finite := hPre_x_is_finite)
-- ==== Pre_x_is_finite.lean ====
abbrev S1x256x1920 : Shape := ⟨3, ![1, 256, 1920]⟩
abbrev S23680x1920 : Shape := ⟨2, ![23680, 1920]⟩
abbrev S23680x60 : Shape := ⟨2, ![23680, 60]⟩
abbrev S_ : Shape := ⟨0, ![]⟩

class Facts : Prop where
  bcast_S_S1x256x1920 : S_.BroadcastsInDim S1x256x1920 (![] : Fin 0 → Fin S1x256x1920.rank)

variable [Facts]

def fn {F : FTy → Type} [FloatOps F] (main_arg0 : FVec F S1x256x1920 .bf16) (main_arg1 : FVec F S23680x1920 .fp8e4m3) (main_arg2 : IVec S23680x60 8) (main_arg3 : FVec F S23680x1920 .fp8e4m3) (main_arg4 : IVec S23680x60 8) : IVec S1x256x1920 1 :=
  let main_v0 : FVec F S1x256x1920 .bf16 := Host.absf main_arg0
  let main_cst : FVec F S_ .bf16 := constant S_ .bf16 0x7F7F#16
  let main_v1 : FVec F S1x256x1920 .bf16 := broadcastInDim S1x256x1920 ![] bcast_S_S1x256x1920 main_cst
  let main_v2 : IVec S1x256x1920 1 := cmpf .ole main_v0 main_v1
  main_v2
-- ==== Kernel.lean ====
abbrev S1x256x1920 : Shape := ⟨3, ![1, 256, 1920]⟩
abbrev S23680x1920 : Shape := ⟨2, ![23680, 1920]⟩
abbrev S23680x60 : Shape := ⟨2, ![23680, 60]⟩
abbrev S256x1920 : Shape := ⟨2, ![256, 1920]⟩
abbrev S256x23680 : Shape := ⟨2, ![256, 23680]⟩
abbrev S256x1 : Shape := ⟨2, ![256, 1]⟩
abbrev S640x1920 : Shape := ⟨2, ![640, 1920]⟩
abbrev S640x60 : Shape := ⟨2, ![640, 60]⟩
abbrev S256x640 : Shape := ⟨2, ![256, 640]⟩
abbrev S256x128 : Shape := ⟨2, ![256, 128]⟩
abbrev S256 : Shape := ⟨1, ![256]⟩
abbrev S32x60 : Shape := ⟨2, ![32, 60]⟩
abbrev S32x68 : Shape := ⟨2, ![32, 68]⟩
abbrev S32x128 : Shape := ⟨2, ![32, 128]⟩
abbrev S8x128 : Shape := ⟨2, ![8, 128]⟩
abbrev S8x128x1 : Shape := ⟨3, ![8, 128, 1]⟩
abbrev S128x1920 : Shape := ⟨2, ![128, 1920]⟩

abbrev nBuf : Space → Nat
  | .hbm => 9
  | .vmem => 17
  | .smem => 0
  | _ => 0

abbrev bufTy : (tb : Table) → Fin (tcTables nBuf tb) → BufTy
  | .hbm, ⟨0, _⟩ => ⟨S1x256x1920, .bf16⟩
  | .hbm, ⟨1, _⟩ => ⟨S23680x1920, .fp8e4m3⟩
  | .hbm, ⟨2, _⟩ => ⟨S23680x60, .i8⟩
  | .hbm, ⟨3, _⟩ => ⟨S23680x1920, .fp8e4m3⟩
  | .hbm, ⟨4, _⟩ => ⟨S23680x60, .i8⟩
  | .hbm, ⟨5, _⟩ => ⟨S256x1920, .bf16⟩
  | .hbm, ⟨6, _⟩ => ⟨S256x23680, .bf16⟩
  | .hbm, ⟨7, _⟩ => ⟨S256x1920, .fp8e4m3⟩
  | .hbm, ⟨8, _⟩ => ⟨S256x1, .f32⟩
  | .local _ .vmem, ⟨0, _⟩ => ⟨S256x1920, .bf16⟩
  | .local _ .vmem, ⟨1, _⟩ => ⟨S640x1920, .fp8e4m3⟩
  | .local _ .vmem, ⟨2, _⟩ => ⟨S640x1920, .fp8e4m3⟩
  | .local _ .vmem, ⟨3, _⟩ => ⟨S640x60, .i8⟩
  | .local _ .vmem, ⟨4, _⟩ => ⟨S640x60, .i8⟩
  | .local _ .vmem, ⟨5, _⟩ => ⟨S640x1920, .fp8e4m3⟩
  | .local _ .vmem, ⟨6, _⟩ => ⟨S640x1920, .fp8e4m3⟩
  | .local _ .vmem, ⟨7, _⟩ => ⟨S640x60, .i8⟩
  | .local _ .vmem, ⟨8, _⟩ => ⟨S640x60, .i8⟩
  | .local _ .vmem, ⟨9, _⟩ => ⟨S256x640, .bf16⟩
  | .local _ .vmem, ⟨10, _⟩ => ⟨S256x640, .bf16⟩
  | .local _ .vmem, ⟨11, _⟩ => ⟨S256x1920, .fp8e4m3⟩
  | .local _ .vmem, ⟨12, _⟩ => ⟨S256x1, .f32⟩
  | .local _ .vmem, ⟨13, _⟩ => ⟨S256x1920, .bf16⟩
  | .local _ .vmem, ⟨14, _⟩ => ⟨S256x128, .f32⟩
  | .local _ .vmem, ⟨15, _⟩ => ⟨S640x1920, .bf16⟩
  | .local _ .vmem, ⟨16, _⟩ => ⟨S640x1920, .bf16⟩
  | _, _ => ⟨S1x256x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![37], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S640x1920 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x60 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1920 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x60 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1920 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x256x1920 : Shape := ⟨3, ![1, 256, 1920]⟩
abbrev S23680x1920 : Shape := ⟨2, ![23680, 1920]⟩
abbrev S23680x60 : Shape := ⟨2, ![23680, 60]⟩
abbrev S256x1920 : Shape := ⟨2, ![256, 1920]⟩
abbrev S256x23680 : Shape := ⟨2, ![256, 23680]⟩
abbrev S256x1 : Shape := ⟨2, ![256, 1]⟩
abbrev S256 : Shape := ⟨1, ![256]⟩
abbrev S23680x60x32 : Shape := ⟨3, ![23680, 60, 32]⟩
abbrev S23680x60x1 : Shape := ⟨3, ![23680, 60, 1]⟩

abbrev nBuf : Space → Nat
  | .hbm => 9
  | .vmem => 8
  | .smem => 0
  | _ => 0

abbrev bufTy : (tb : Table) → Fin (tcTables nBuf tb) → BufTy
  | .hbm, ⟨0, _⟩ => ⟨S1x256x1920, .bf16⟩
  | .hbm, ⟨1, _⟩ => ⟨S23680x1920, .fp8e4m3⟩
  | .hbm, ⟨2, _⟩ => ⟨S23680x60, .i8⟩
  | .hbm, ⟨3, _⟩ => ⟨S23680x1920, .fp8e4m3⟩
  | .hbm, ⟨4, _⟩ => ⟨S23680x60, .i8⟩
  | .hbm, ⟨5, _⟩ => ⟨S256x1920, .bf16⟩
  | .hbm, ⟨6, _⟩ => ⟨S256x23680, .bf16⟩
  | .hbm, ⟨7, _⟩ => ⟨S256x1920, .fp8e4m3⟩
  | .hbm, ⟨8, _⟩ => ⟨S256x1, .f32⟩
  | .local _ .vmem, ⟨0, _⟩ => ⟨S256x1920, .bf16⟩
  | .local _ .vmem, ⟨1, _⟩ => ⟨S23680x1920, .fp8e4m3⟩
  | .local _ .vmem, ⟨2, _⟩ => ⟨S23680x60, .i8⟩
  | .local _ .vmem, ⟨3, _⟩ => ⟨S23680x1920, .fp8e4m3⟩
  | .local _ .vmem, ⟨4, _⟩ => ⟨S23680x60, .i8⟩
  | .local _ .vmem, ⟨5, _⟩ => ⟨S256x23680, .bf16⟩
  | .local _ .vmem, ⟨6, _⟩ => ⟨S256x1920, .fp8e4m3⟩
  | .local _ .vmem, ⟨7, _⟩ => ⟨S256x1, .f32⟩
  | _, _ => ⟨S1x256x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S256x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S23680x1920 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S23680x60 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S23680x1920 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S23680x60 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x23680 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1920 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelBase.lean ====
/- The same as `Base`, of the kernel before it is idealized. -/
module

public import proofs.«01_k».proof.Proof.Gen.Kernel.Skeleton
public import proofs.«01_k».proof.Proof.Gen.Kernel.Frame
public import Idealize.ShloMosaic.Lib.Tactic
public import Idealize.ShloMosaic.Lib.WordCmp
public import Idealize.ShloMosaic.Lib.Ring

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The condition of the body's one branch: the grid point is the first. -/
abbrev cond0_0 (i : grid0.Coords) : Prop := k0_cond1 i = 1#1
/-- It holds at the first point only — by arithmetic of the point. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, k0_cond1, e0]
    word_cmp
   : ∀ t : Fin grid0.N, cond0_0 (grid0.coords t) ↔ t.val % 37 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl

/-- Each window's current staging memref at point `t`, spelled as the pipeline passes it (`bodyAt0`), and its wholeness. -/
abbrev ms0_0 (t : Fin cfg0.N) : Memref sig .tc .vmem S256x1920 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x1920 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x60 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x1920 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S640x60 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x640 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1920 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x1920 .bf16 := Memref.whole cc0_scratch0
abbrev scM0_1 : Memref sig .tc .vmem S256x128 .f32 := Memref.whole cc0_scratch1
abbrev scM0_2 : Memref sig .tc .vmem S640x1920 .bf16 := Memref.whole cc0_scratch2
abbrev scM0_3 : Memref sig .tc .vmem S640x1920 .bf16 := Memref.whole cc0_scratch3

/-- The region's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.KernelRunA.lean ====
/- The same as `RunA`, of the kernel before it is idealized. -/
module

public import proofs.«01_k».proof.Proof.KernelBase

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 40000000 in
/-- The body run at the first grid point: the stores it leaves in each buffer, as lists of pieces (last first), with the proof that
    the body, from the inputs' blocks, ends with those pieces written. -/
noncomputable def runA (c : Dev nD) (i : grid0.Coords) (arg1 : Memref sig .tc .vmem S256x1920 .bf16) (harg1 : arg1.IsWhole) (arg2 : Memref sig .tc .vmem S640x1920 .fp8e4m3) (harg2 : arg2.IsWhole) (arg3 : Memref sig .tc .vmem S640x60 .i8) (harg3 : arg3.IsWhole) (arg4 : Memref sig .tc .vmem S640x1920 .fp8e4m3) (harg4 : arg4.IsWhole) (arg5 : Memref sig .tc .vmem S640x60 .i8) (harg5 : arg5.IsWhole) (arg6 : Memref sig .tc .vmem S256x640 .bf16) (harg6 : arg6.IsWhole) (arg7 : Memref sig .tc .vmem S256x1920 .fp8e4m3) (harg7 : arg7.IsWhole) (arg8 : Memref sig .tc .vmem S256x1 .f32) (harg8 : arg8.IsWhole) (arg9 : Memref sig .tc .vmem S256x1920 .bf16) (harg9 : arg9.IsWhole) (arg10 : Memref sig .tc .vmem S256x128 .f32) (harg10 : arg10.IsWhole) (arg11 : Memref sig .tc .vmem S640x1920 .bf16) (harg11 : arg11.IsWhole) (arg12 : Memref sig .tc .vmem S640x1920 .bf16) (harg12 : arg12.IsWhole) (hc0 : cond0_0 i)
    (x0 : Vec F S256x1920 .bf16) (x1 : Vec F S640x1920 .fp8e4m3) (x2 : Vec F S640x60 .i8) (x3 : Vec F S640x1920 .fp8e4m3) (x4 : Vec F S640x60 .i8) :
    Σ' (L5 : List (View.Piece (Elt F) S256x640 .bf16)), Σ' (L6 : List (View.Piece (Elt F) S256x1920 .fp8e4m3)), Σ' (L7 : List (View.Piece (Elt F) S256x1 .f32)), Σ' (LS0 : List (View.Piece (Elt F) S256x1920 .bf16)), Σ' (LS1 : List (View.Piece (Elt F) S256x128 .f32)), Σ' (LT2 : List (View.Piece (Elt F) S640x1920 .bf16)), { LT3 : List (View.Piece (Elt F) S640x1920 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LT3)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__body_eq_skeleton]; unfold cc0__body_skel
    simp only [k0_part934_eq_skeleton, k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part935_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part936_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part937_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part938_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part939_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part940_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part941_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part942_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part943_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part944_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part661_eq_skeleton, k0_part662_eq_skeleton, k0_part945_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton, k0_part679_eq_skeleton, k0_part680_eq_skeleton, k0_part681_eq_skeleton, k0_part682_eq_skeleton, k0_part683_eq_skeleton, k0_part684_eq_skeleton, k0_part685_eq_skeleton, k0_part686_eq_skeleton, k0_part687_eq_skeleton, k0_part688_eq_skeleton, k0_part689_eq_skeleton, k0_part690_eq_skeleton, k0_part691_eq_skeleton, k0_part692_eq_skeleton, k0_part693_eq_skeleton, k0_part694_eq_skeleton, k0_part695_eq_skeleton, k0_part696_eq_skeleton, k0_part697_eq_skeleton, k0_part698_eq_skeleton, k0_part699_eq_skeleton, k0_part700_eq_skeleton, k0_part701_eq_skeleton, k0_part702_eq_skeleton, k0_part703_eq_skeleton, k0_part704_eq_skeleton, k0_part705_eq_skeleton, k0_part706_eq_skeleton, k0_part707_eq_skeleton, k0_part708_eq_skeleton, k0_part709_eq_skeleton, k0_part710_eq_skeleton, k0_part711_eq_skeleton, k0_part712_eq_skeleton, k0_part713_eq_skeleton, k0_part714_eq_skeleton, k0_part715_eq_skeleton, k0_part716_eq_skeleton, k0_part717_eq_skeleton, k0_part718_eq_skeleton, k0_part719_eq_skeleton, k0_part720_eq_skeleton, k0_part721_eq_skeleton, k0_part722_eq_skeleton, k0_part946_eq_skeleton, k0_part723_eq_skeleton, k0_part724_eq_skeleton, k0_part725_eq_skeleton, k0_part726_eq_skeleton, k0_part727_eq_skeleton, k0_part728_eq_skeleton, k0_part729_eq_skeleton, k0_part730_eq_skeleton, k0_part731_eq_skeleton, k0_part732_eq_skeleton, k0_part733_eq_skeleton, k0_part734_eq_skeleton, k0_part735_eq_skeleton, k0_part736_eq_skeleton, k0_part737_eq_skeleton, k0_part738_eq_skeleton, k0_part739_eq_skeleton, k0_part740_eq_skeleton, k0_part741_eq_skeleton, k0_part742_eq_skeleton, k0_part743_eq_skeleton, k0_part744_eq_skeleton, k0_part745_eq_skeleton, k0_part746_eq_skeleton, k0_part747_eq_skeleton, k0_part748_eq_skeleton, k0_part749_eq_skeleton, k0_part750_eq_skeleton, k0_part751_eq_skeleton, k0_part752_eq_skeleton, k0_part753_eq_skeleton, k0_part754_eq_skeleton, k0_part755_eq_skeleton, k0_part756_eq_skeleton, k0_part757_eq_skeleton, k0_part758_eq_skeleton, k0_part759_eq_skeleton, k0_part760_eq_skeleton, k0_part761_eq_skeleton, k0_part762_eq_skeleton, k0_part763_eq_skeleton, k0_part764_eq_skeleton, k0_part765_eq_skeleton, k0_part766_eq_skeleton, k0_part767_eq_skeleton, k0_part768_eq_skeleton, k0_part769_eq_skeleton, k0_part770_eq_skeleton, k0_part771_eq_skeleton, k0_part772_eq_skeleton, k0_part773_eq_skeleton, k0_part774_eq_skeleton, k0_part775_eq_skeleton, k0_part776_eq_skeleton, k0_part777_eq_skeleton, k0_part778_eq_skeleton, k0_part779_eq_skeleton, k0_part780_eq_skeleton, k0_part781_eq_skeleton, k0_part782_eq_skeleton, k0_part947_eq_skeleton, k0_part783_eq_skeleton, k0_part784_eq_skeleton, k0_part785_eq_skeleton, k0_part786_eq_skeleton, k0_part787_eq_skeleton, k0_part788_eq_skeleton, k0_part789_eq_skeleton, k0_part790_eq_skeleton, k0_part791_eq_skeleton, k0_part792_eq_skeleton, k0_part793_eq_skeleton, k0_part794_eq_skeleton, k0_part795_eq_skeleton, k0_part796_eq_skeleton, k0_part797_eq_skeleton, k0_part798_eq_skeleton, k0_part799_eq_skeleton, k0_part800_eq_skeleton, k0_part801_eq_skeleton, k0_part802_eq_skeleton, k0_part803_eq_skeleton, k0_part804_eq_skeleton, k0_part805_eq_skeleton, k0_part806_eq_skeleton, k0_part807_eq_skeleton, k0_part808_eq_skeleton, k0_part809_eq_skeleton, k0_part810_eq_skeleton, k0_part811_eq_skeleton, k0_part812_eq_skeleton, k0_part813_eq_skeleton, k0_part814_eq_skeleton, k0_part815_eq_skeleton, k0_part816_eq_skeleton, k0_part817_eq_skeleton, k0_part818_eq_skeleton, k0_part819_eq_skeleton, k0_part820_eq_skeleton, k0_part821_eq_skeleton, k0_part822_eq_skeleton, k0_part823_eq_skeleton, k0_part824_eq_skeleton, k0_part825_eq_skeleton, k0_part826_eq_skeleton, k0_part827_eq_skeleton, k0_part828_eq_skeleton, k0_part829_eq_skeleton, k0_part830_eq_skeleton, k0_part831_eq_skeleton, k0_part832_eq_skeleton, k0_part833_eq_skeleton, k0_part834_eq_skeleton, k0_part835_eq_skeleton, k0_part836_eq_skeleton, k0_part837_eq_skeleton, k0_part838_eq_skeleton, k0_part839_eq_skeleton, k0_part840_eq_skeleton, k0_part841_eq_skeleton, k0_part842_eq_skeleton, k0_part948_eq_skeleton, k0_part843_eq_skeleton, k0_part844_eq_skeleton, k0_part845_eq_skeleton, k0_part846_eq_skeleton, k0_part847_eq_skeleton, k0_part848_eq_skeleton, k0_part849_eq_skeleton, k0_part850_eq_skeleton, k0_part851_eq_skeleton, k0_part852_eq_skeleton, k0_part853_eq_skeleton, k0_part854_eq_skeleton, k0_part855_eq_skeleton, k0_part856_eq_skeleton, k0_part857_eq_skeleton, k0_part858_eq_skeleton, k0_part859_eq_skeleton, k0_part860_eq_skeleton, k0_part861_eq_skeleton, k0_part862_eq_skeleton, k0_part863_eq_skeleton, k0_part864_eq_skeleton, k0_part865_eq_skeleton, k0_part866_eq_skeleton, k0_part867_eq_skeleton, k0_part868_eq_skeleton, k0_part869_eq_skeleton, k0_part870_eq_skeleton, k0_part871_eq_skeleton, k0_part872_eq_skeleton, k0_part873_eq_skeleton, k0_part874_eq_skeleton, k0_part875_eq_skeleton, k0_part876_eq_skeleton, k0_part877_eq_skeleton, k0_part878_eq_skeleton, k0_part879_eq_skeleton, k0_part880_eq_skeleton, k0_part881_eq_skeleton, k0_part882_eq_skeleton, k0_part883_eq_skeleton, k0_part884_eq_skeleton, k0_part885_eq_skeleton, k0_part886_eq_skeleton, k0_part887_eq_skeleton, k0_part888_eq_skeleton, k0_part889_eq_skeleton, k0_part890_eq_skeleton, k0_part891_eq_skeleton, k0_part892_eq_skeleton, k0_part893_eq_skeleton, k0_part894_eq_skeleton, k0_part895_eq_skeleton, k0_part896_eq_skeleton, k0_part897_eq_skeleton, k0_part898_eq_skeleton, k0_part899_eq_skeleton, k0_part900_eq_skeleton, k0_part901_eq_skeleton, k0_part902_eq_skeleton, k0_part903_eq_skeleton, k0_part904_eq_skeleton, k0_part905_eq_skeleton, k0_part906_eq_skeleton, k0_part907_eq_skeleton, k0_part908_eq_skeleton, k0_part909_eq_skeleton, k0_part910_eq_skeleton, k0_part911_eq_skeleton, k0_part912_eq_skeleton, k0_part913_eq_skeleton, k0_part914_eq_skeleton, k0_part915_eq_skeleton, k0_part916_eq_skeleton, k0_part917_eq_skeleton, k0_part918_eq_skeleton, k0_part919_eq_skeleton, k0_part920_eq_skeleton, k0_part921_eq_skeleton, k0_part922_eq_skeleton, k0_part923_eq_skeleton, k0_part924_eq_skeleton, k0_part925_eq_skeleton, k0_part926_eq_skeleton, k0_part927_eq_skeleton, k0_part928_eq_skeleton, k0_part929_eq_skeleton, k0_part930_eq_skeleton, k0_part931_eq_skeleton, k0_part932_eq_skeleton, k0_part933_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [HS2]; · iexists _; iexact HS2
    iexists _; iexact HS3

end Cert.Kernel.Hand

end
-- ==== Proof.KernelRunB.lean ====
/- The same as `RunB`, of the kernel before it is idealized. -/
module

public import proofs.«01_k».proof.Proof.KernelRunA

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 40000000 in
/-- The body run at a later grid point: the stores it leaves in each buffer, as lists of pieces (last first), with the proof that
    the body, from the inputs' blocks, ends with those pieces written; the codes, the scale and the two carried scratch buffers end as they were. -/
noncomputable def runB (c : Dev nD) (i : grid0.Coords) (arg1 : Memref sig .tc .vmem S256x1920 .bf16) (harg1 : arg1.IsWhole) (arg2 : Memref sig .tc .vmem S640x1920 .fp8e4m3) (harg2 : arg2.IsWhole) (arg3 : Memref sig .tc .vmem S640x60 .i8) (harg3 : arg3.IsWhole) (arg4 : Memref sig .tc .vmem S640x1920 .fp8e4m3) (harg4 : arg4.IsWhole) (arg5 : Memref sig .tc .vmem S640x60 .i8) (harg5 : arg5.IsWhole) (arg6 : Memref sig .tc .vmem S256x640 .bf16) (harg6 : arg6.IsWhole) (arg7 : Memref sig .tc .vmem S256x1920 .fp8e4m3) (harg7 : arg7.IsWhole) (arg8 : Memref sig .tc .vmem S256x1 .f32) (harg8 : arg8.IsWhole) (arg9 : Memref sig .tc .vmem S256x1920 .bf16) (harg9 : arg9.IsWhole) (arg10 : Memref sig .tc .vmem S256x128 .f32) (harg10 : arg10.IsWhole) (arg11 : Memref sig .tc .vmem S640x1920 .bf16) (harg11 : arg11.IsWhole) (arg12 : Memref sig .tc .vmem S640x1920 .bf16) (harg12 : arg12.IsWhole) (hc0 : ¬cond0_0 i)
    (x0 : Vec F S256x1920 .bf16) (x1 : Vec F S640x1920 .fp8e4m3) (x2 : Vec F S640x60 .i8) (x3 : Vec F S640x1920 .fp8e4m3) (x4 : Vec F S640x60 .i8) (y6 : Vec F S256x1920 .fp8e4m3) (y7 : Vec F S256x1 .f32) (xs0 : Vec F S256x1920 .bf16) (xs1 : Vec F S256x128 .f32) :
    Σ' (L5 : List (View.Piece (Elt F) S256x640 .bf16)), Σ' (LT2 : List (View.Piece (Elt F) S640x1920 .bf16)), { LT3 : List (View.Piece (Elt F) S640x1920 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y6 ∗ owns (c : Thread nD τ) arg8 fullShare y7 ∗ owns (c : Thread nD τ) arg9 fullShare xs0 ∗ owns (c : Thread nD τ) arg10 fullShare xs1 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare y6 ∗ owns (c : Thread nD τ) arg8 fullShare y7 ∗ owns (c : Thread nD τ) arg9 fullShare xs0 ∗ owns (c : Thread nD τ) arg10 fullShare xs1 ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LT3)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__body_eq_skeleton]; unfold cc0__body_skel
    simp only [k0_part934_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part935_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part936_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part937_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part938_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part939_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part940_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part941_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part942_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part943_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part944_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part661_eq_skeleton, k0_part662_eq_skeleton, k0_part945_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton, k0_part679_eq_skeleton, k0_part680_eq_skeleton, k0_part681_eq_skeleton, k0_part682_eq_skeleton, k0_part683_eq_skeleton, k0_part684_eq_skeleton, k0_part685_eq_skeleton, k0_part686_eq_skeleton, k0_part687_eq_skeleton, k0_part688_eq_skeleton, k0_part689_eq_skeleton, k0_part690_eq_skeleton, k0_part691_eq_skeleton, k0_part692_eq_skeleton, k0_part693_eq_skeleton, k0_part694_eq_skeleton, k0_part695_eq_skeleton, k0_part696_eq_skeleton, k0_part697_eq_skeleton, k0_part698_eq_skeleton, k0_part699_eq_skeleton, k0_part700_eq_skeleton, k0_part701_eq_skeleton, k0_part702_eq_skeleton, k0_part703_eq_skeleton, k0_part704_eq_skeleton, k0_part705_eq_skeleton, k0_part706_eq_skeleton, k0_part707_eq_skeleton, k0_part708_eq_skeleton, k0_part709_eq_skeleton, k0_part710_eq_skeleton, k0_part711_eq_skeleton, k0_part712_eq_skeleton, k0_part713_eq_skeleton, k0_part714_eq_skeleton, k0_part715_eq_skeleton, k0_part716_eq_skeleton, k0_part717_eq_skeleton, k0_part718_eq_skeleton, k0_part719_eq_skeleton, k0_part720_eq_skeleton, k0_part721_eq_skeleton, k0_part722_eq_skeleton, k0_part946_eq_skeleton, k0_part723_eq_skeleton, k0_part724_eq_skeleton, k0_part725_eq_skeleton, k0_part726_eq_skeleton, k0_part727_eq_skeleton, k0_part728_eq_skeleton, k0_part729_eq_skeleton, k0_part730_eq_skeleton, k0_part731_eq_skeleton, k0_part732_eq_skeleton, k0_part733_eq_skeleton, k0_part734_eq_skeleton, k0_part735_eq_skeleton, k0_part736_eq_skeleton, k0_part737_eq_skeleton, k0_part738_eq_skeleton, k0_part739_eq_skeleton, k0_part740_eq_skeleton, k0_part741_eq_skeleton, k0_part742_eq_skeleton, k0_part743_eq_skeleton, k0_part744_eq_skeleton, k0_part745_eq_skeleton, k0_part746_eq_skeleton, k0_part747_eq_skeleton, k0_part748_eq_skeleton, k0_part749_eq_skeleton, k0_part750_eq_skeleton, k0_part751_eq_skeleton, k0_part752_eq_skeleton, k0_part753_eq_skeleton, k0_part754_eq_skeleton, k0_part755_eq_skeleton, k0_part756_eq_skeleton, k0_part757_eq_skeleton, k0_part758_eq_skeleton, k0_part759_eq_skeleton, k0_part760_eq_skeleton, k0_part761_eq_skeleton, k0_part762_eq_skeleton, k0_part763_eq_skeleton, k0_part764_eq_skeleton, k0_part765_eq_skeleton, k0_part766_eq_skeleton, k0_part767_eq_skeleton, k0_part768_eq_skeleton, k0_part769_eq_skeleton, k0_part770_eq_skeleton, k0_part771_eq_skeleton, k0_part772_eq_skeleton, k0_part773_eq_skeleton, k0_part774_eq_skeleton, k0_part775_eq_skeleton, k0_part776_eq_skeleton, k0_part777_eq_skeleton, k0_part778_eq_skeleton, k0_part779_eq_skeleton, k0_part780_eq_skeleton, k0_part781_eq_skeleton, k0_part782_eq_skeleton, k0_part947_eq_skeleton, k0_part783_eq_skeleton, k0_part784_eq_skeleton, k0_part785_eq_skeleton, k0_part786_eq_skeleton, k0_part787_eq_skeleton, k0_part788_eq_skeleton, k0_part789_eq_skeleton, k0_part790_eq_skeleton, k0_part791_eq_skeleton, k0_part792_eq_skeleton, k0_part793_eq_skeleton, k0_part794_eq_skeleton, k0_part795_eq_skeleton, k0_part796_eq_skeleton, k0_part797_eq_skeleton, k0_part798_eq_skeleton, k0_part799_eq_skeleton, k0_part800_eq_skeleton, k0_part801_eq_skeleton, k0_part802_eq_skeleton, k0_part803_eq_skeleton, k0_part804_eq_skeleton, k0_part805_eq_skeleton, k0_part806_eq_skeleton, k0_part807_eq_skeleton, k0_part808_eq_skeleton, k0_part809_eq_skeleton, k0_part810_eq_skeleton, k0_part811_eq_skeleton, k0_part812_eq_skeleton, k0_part813_eq_skeleton, k0_part814_eq_skeleton, k0_part815_eq_skeleton, k0_part816_eq_skeleton, k0_part817_eq_skeleton, k0_part818_eq_skeleton, k0_part819_eq_skeleton, k0_part820_eq_skeleton, k0_part821_eq_skeleton, k0_part822_eq_skeleton, k0_part823_eq_skeleton, k0_part824_eq_skeleton, k0_part825_eq_skeleton, k0_part826_eq_skeleton, k0_part827_eq_skeleton, k0_part828_eq_skeleton, k0_part829_eq_skeleton, k0_part830_eq_skeleton, k0_part831_eq_skeleton, k0_part832_eq_skeleton, k0_part833_eq_skeleton, k0_part834_eq_skeleton, k0_part835_eq_skeleton, k0_part836_eq_skeleton, k0_part837_eq_skeleton, k0_part838_eq_skeleton, k0_part839_eq_skeleton, k0_part840_eq_skeleton, k0_part841_eq_skeleton, k0_part842_eq_skeleton, k0_part948_eq_skeleton, k0_part843_eq_skeleton, k0_part844_eq_skeleton, k0_part845_eq_skeleton, k0_part846_eq_skeleton, k0_part847_eq_skeleton, k0_part848_eq_skeleton, k0_part849_eq_skeleton, k0_part850_eq_skeleton, k0_part851_eq_skeleton, k0_part852_eq_skeleton, k0_part853_eq_skeleton, k0_part854_eq_skeleton, k0_part855_eq_skeleton, k0_part856_eq_skeleton, k0_part857_eq_skeleton, k0_part858_eq_skeleton, k0_part859_eq_skeleton, k0_part860_eq_skeleton, k0_part861_eq_skeleton, k0_part862_eq_skeleton, k0_part863_eq_skeleton, k0_part864_eq_skeleton, k0_part865_eq_skeleton, k0_part866_eq_skeleton, k0_part867_eq_skeleton, k0_part868_eq_skeleton, k0_part869_eq_skeleton, k0_part870_eq_skeleton, k0_part871_eq_skeleton, k0_part872_eq_skeleton, k0_part873_eq_skeleton, k0_part874_eq_skeleton, k0_part875_eq_skeleton, k0_part876_eq_skeleton, k0_part877_eq_skeleton, k0_part878_eq_skeleton, k0_part879_eq_skeleton, k0_part880_eq_skeleton, k0_part881_eq_skeleton, k0_part882_eq_skeleton, k0_part883_eq_skeleton, k0_part884_eq_skeleton, k0_part885_eq_skeleton, k0_part886_eq_skeleton, k0_part887_eq_skeleton, k0_part888_eq_skeleton, k0_part889_eq_skeleton, k0_part890_eq_skeleton, k0_part891_eq_skeleton, k0_part892_eq_skeleton, k0_part893_eq_skeleton, k0_part894_eq_skeleton, k0_part895_eq_skeleton, k0_part896_eq_skeleton, k0_part897_eq_skeleton, k0_part898_eq_skeleton, k0_part899_eq_skeleton, k0_part900_eq_skeleton, k0_part901_eq_skeleton, k0_part902_eq_skeleton, k0_part903_eq_skeleton, k0_part904_eq_skeleton, k0_part905_eq_skeleton, k0_part906_eq_skeleton, k0_part907_eq_skeleton, k0_part908_eq_skeleton, k0_part909_eq_skeleton, k0_part910_eq_skeleton, k0_part911_eq_skeleton, k0_part912_eq_skeleton, k0_part913_eq_skeleton, k0_part914_eq_skeleton, k0_part915_eq_skeleton, k0_part916_eq_skeleton, k0_part917_eq_skeleton, k0_part918_eq_skeleton, k0_part919_eq_skeleton, k0_part920_eq_skeleton, k0_part921_eq_skeleton, k0_part922_eq_skeleton, k0_part923_eq_skeleton, k0_part924_eq_skeleton, k0_part925_eq_skeleton, k0_part926_eq_skeleton, k0_part927_eq_skeleton, k0_part928_eq_skeleton, k0_part929_eq_skeleton, k0_part930_eq_skeleton, k0_part931_eq_skeleton, k0_part932_eq_skeleton, k0_part933_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    isplitl [HS1]
    · iexists _; isplitr; · ipureintro; exact harg10.read_unread _
      iexact HS1
    isplitl [HS2]; · iexists _; iexact HS2
    iexists _; iexact HS3

end Cert.Kernel.Hand

end
-- ==== Proof.KernelPipe.lean ====
/- The same as `Pipe`, of the kernel before it is idealized: its run and its frame. -/
module

public import proofs.«01_k».proof.Proof.KernelRunA
public import proofs.«01_k».proof.Proof.KernelRunB
public import Idealize.ShloMosaic.Lib.Pipeline.TableIdle
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What each grid point leaves in the buffers -/

/-- The first grid point. -/
abbrev t0 : Fin cfg0.N := ⟨0, by rw [show cfg0.N = 37 from N_0]; omega⟩

theorem t0_mod : (t0 : Fin cfg0.N).val % 37 = 0 := rfl

/-- The body's run at a point where the branch is taken, at that point's buffers and blocks. -/
abbrev rA (c : Dev nD) (t : Fin cfg0.N) (h : t.val % 37 = 0) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h) (iblk m c 0 t) (iblk m c 1 t) (iblk m c 2 t) (iblk m c 3 t) (iblk m c 4 t)

/-- The body's run at any other point, over what its output buffers and the two carried scratch buffers hold. -/
abbrev rB (c : Dev nD) (t : Fin cfg0.N) (h : ¬t.val % 37 = 0) (y6 : Vec F S256x1920 .fp8e4m3) (y7 : Vec F S256x1 .f32) (xs0 : Vec F S256x1920 .bf16) (xs1 : Vec F S256x128 .f32) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h' => h ((hcond0_0 t).mp h')) (iblk m c 0 t) (iblk m c 1 t) (iblk m c 2 t) (iblk m c 3 t) (iblk m c 4 t) y6 y7 xs0 xs1

/-- The pieces the first point stores cover each buffer it writes whole. -/
theorem coverA5 (c : Dev nD) (t : Fin cfg0.N) (h) (y : S256x640.Idx) : ∃ pc ∈ (rA m c t h).1, y ∈ pc.1.set :=
  View.cover_of_tiledL (rA m c t h).1 ![256, 128] (by sl_kernel_rfl) y
theorem coverA6 (c : Dev nD) (t : Fin cfg0.N) (h) (y : S256x1920.Idx) : ∃ pc ∈ (rA m c t h).2.1, y ∈ pc.1.set :=
  View.cover_of_tiledL (rA m c t h).2.1 S256x1920.size (by sl_kernel_rfl) y
theorem coverA7 (c : Dev nD) (t : Fin cfg0.N) (h) (y : S256x1.Idx) : ∃ pc ∈ (rA m c t h).2.2.1, y ∈ pc.1.set :=
  View.cover_of_tiledL (rA m c t h).2.2.1 S256x1.size (by sl_kernel_rfl) y
theorem coverA8 (c : Dev nD) (t : Fin cfg0.N) (h) (y : S256x1920.Idx) : ∃ pc ∈ (rA m c t h).2.2.2.1, y ∈ pc.1.set :=
  View.cover_of_tiledL (rA m c t h).2.2.2.1 S256x1920.size (by sl_kernel_rfl) y
theorem coverA9 (c : Dev nD) (t : Fin cfg0.N) (h) (y : S256x128.Idx) : ∃ pc ∈ (rA m c t h).2.2.2.2.1, y ∈ pc.1.set :=
  View.cover_of_tiledL (rA m c t h).2.2.2.2.1 S256x128.size (by sl_kernel_rfl) y
/-- So do the pieces any other point stores into the first result's block. -/
theorem coverB5 (c : Dev nD) (t : Fin cfg0.N) (h) (y6) (y7) (xs0) (xs1) (y : S256x640.Idx) : ∃ pc ∈ (rB m c t h y6 y7 xs0 xs1).1, y ∈ pc.1.set :=
  View.cover_of_tiledL (rB m c t h y6 y7 xs0 xs1).1 ![256, 128] (by sl_kernel_rfl) y

/-- The codes, the scale and the two scratch copies of them that the first point leaves. -/
def codesOf (c : Dev nD) : Vec F S256x1920 .fp8e4m3 := View.canon (rA m c t0 t0_mod).2.1
def scaleOf (c : Dev nD) : Vec F S256x1 .f32 := View.canon (rA m c t0 t0_mod).2.2.1
def xbOf (c : Dev nD) : Vec F S256x1920 .bf16 := View.canon (rA m c t0 t0_mod).2.2.2.1
def scOf (c : Dev nD) : Vec F S256x128 .f32 := View.canon (rA m c t0 t0_mod).2.2.2.2.1
/-- The first result's block after point `t`. -/
def yOf (c : Dev nD) (t : Fin cfg0.N) : Vec F S256x640 .bf16 :=
  if h : t.val % 37 = 0 then View.canon (rA m c t h).1
  else View.canon (rB m c t h (codesOf m c) (scaleOf m c) (xbOf m c) (scOf m c)).1

theorem yOf_A (c : Dev nD) (t : Fin cfg0.N) (h : t.val % 37 = 0) : yOf m c t = View.canon (rA m c t h).1 := dif_pos h
theorem yOf_B (c : Dev nD) (t : Fin cfg0.N) (h : ¬t.val % 37 = 0) :
    yOf m c t = View.canon (rB m c t h (codesOf m c) (scaleOf m c) (xbOf m c) (scOf m c)).1 := dif_neg h

/-! ## The pipeline's proof data -/

/-- The invariant before position `n`: before the first point every scratch buffer holds anything; afterwards the first two
    hold the codes and the scale. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare (xbOf m c) ∗ owns (c : Thread nD τ) scM0_1 fullShare (scOf m c) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (xbOf m c) ∗ owns (c : Thread nD τ) scM0_1 fullShare (scOf m c) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-- The proof data: the arrays as launched; each input's buffer at its block; the outputs' at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yOf m c t
    | ⟨6, _⟩ => codesOf m c
    | ⟨7, _⟩ => scaleOf m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yOf m c t := by dsimp only [dats]
theorem after0_6 (c : Dev nD) (t : Fin cfg0.N) : (dats m 0 c).after 6 t = codesOf m c := by dsimp only [dats]
theorem after0_7 (c : Dev nD) (t : Fin cfg0.N) : (dats m 0 c).after 7 t = scaleOf m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The two results stored at the first point only -/

theorem idle6_iff (t : Fin cfg0.N) : cfg0.idle 6 (grid0.coords t) = true ↔ ¬t.val % 37 = 0 := by
  show (!(k0_cond1 (grid0.coords t) == 1#1)) = true ↔ _
  rw [← hcond0_0 t]
  simp [cond0_0]

/-- Result 2's buffer is fresh at the first point only. -/
theorem fresh6 : ∀ n, n + 1 < 37 → cfg0.fresh 6 (n + 1) = false
  | 0, h => by
    have hN : cfg0.N = 37 := N_0
    have h0 : 0 < cfg0.N := by omega
    rw [Cfg.fresh_succ cfg0 6 0 h0]
    have h1 : (cfg0.win 6).flush ⟨0, h0⟩ = false := by
      rw [Bool.eq_false_iff, ne_eq, flush0_6 ⟨0, h0⟩]; show ¬ 0 % 37 = 36; omega
    have h2 : cfg0.idle 6 (cfg0.grid.coords ⟨0, h0⟩) = false := by
      rw [Bool.eq_false_iff, ne_eq]; intro hh; exact (idle6_iff ⟨0, h0⟩).mp hh rfl
    rw [h1, h2]; rfl
  | n + 1, h => by
    have hN : cfg0.N = 37 := N_0
    have h0 : n + 1 < cfg0.N := by omega
    rw [Cfg.fresh_succ cfg0 6 (n + 1) h0, fresh6 n (by omega)]
    have h1 : (cfg0.win 6).flush ⟨n + 1, h0⟩ = false := by
      rw [Bool.eq_false_iff, ne_eq, flush0_6 ⟨n + 1, h0⟩]; show ¬ (n + 1) % 37 = 36; omega
    rw [h1, Bool.and_false]; rfl

/-- After the first point the body finds in result 2's buffer what the first point left there. -/
theorem before0_6 (c : Dev nD) (t : Fin cfg0.N) (ht : t.val ≠ 0) (d) : (dats m 0 c).before 6 t d = codesOf m c := by
  have hN : cfg0.N = 37 := N_0
  have e := Dat.before_out_traj (dats m 0 c) 6 rfl (fun _ _ => rfl)
    (fun t _ _ _ => by rw [after0_6, after0_6]) t.val t rfl d
  obtain ⟨n, hn⟩ : ∃ n, t.val = n + 1 := ⟨t.val - 1, by omega⟩
  have hf : cfg0.fresh 6 t.val = false := by
    rw [hn]; exact fresh6 n (by have := t.isLt; omega)
  rw [hf, if_neg Bool.false_ne_true, after0_6] at e
  exact e

/-- Handing the buffer back at the first point's contents meets the obligation at every point. -/
theorem leaves6 (c : Dev nD) (t : Fin cfg0.N) :
    (owns (c : Thread nD τ) (ms0_6 t) fullShare (codesOf m c) : sProp (MT nD τ sig Unit (Elt F) ℕ (UR sig nD τ) ℕ)) ⊢
      (match cfg0.idle 6 (cfg0.grid.coords t) with
        | true =>
          match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t)) := by
  rw [after0_6]
  cases hi : cfg0.idle 6 (cfg0.grid.coords t)
  · exact .rfl
  · have ht : t.val ≠ 0 := fun h0 => (idle6_iff t).mp hi (by rw [h0])
    cases (cfg0.win 6).flush t
    · show _ ⊢ iprop(∃ d, owns (c : Thread nD τ) ((cfg0.win 6).stage (cfg0.slots t 6)) fullShare ((dats m 0 c).before 6 t d))
      iintro H
      iexists codesOf m c
      rw [before0_6 m c t ht]
      iexact H
    · exact .rfl

theorem idle7_iff (t : Fin cfg0.N) : cfg0.idle 7 (grid0.coords t) = true ↔ ¬t.val % 37 = 0 := by
  show (!(k0_cond1 (grid0.coords t) == 1#1)) = true ↔ _
  rw [← hcond0_0 t]
  simp [cond0_0]

/-- Result 3's buffer is fresh at the first point only. -/
theorem fresh7 : ∀ n, n + 1 < 37 → cfg0.fresh 7 (n + 1) = false
  | 0, h => by
    have hN : cfg0.N = 37 := N_0
    have h0 : 0 < cfg0.N := by omega
    rw [Cfg.fresh_succ cfg0 7 0 h0]
    have h1 : (cfg0.win 7).flush ⟨0, h0⟩ = false := by
      rw [Bool.eq_false_iff, ne_eq, flush0_7 ⟨0, h0⟩]; show ¬ 0 % 37 = 36; omega
    have h2 : cfg0.idle 7 (cfg0.grid.coords ⟨0, h0⟩) = false := by
      rw [Bool.eq_false_iff, ne_eq]; intro hh; exact (idle7_iff ⟨0, h0⟩).mp hh rfl
    rw [h1, h2]; rfl
  | n + 1, h => by
    have hN : cfg0.N = 37 := N_0
    have h0 : n + 1 < cfg0.N := by omega
    rw [Cfg.fresh_succ cfg0 7 (n + 1) h0, fresh7 n (by omega)]
    have h1 : (cfg0.win 7).flush ⟨n + 1, h0⟩ = false := by
      rw [Bool.eq_false_iff, ne_eq, flush0_7 ⟨n + 1, h0⟩]; show ¬ (n + 1) % 37 = 36; omega
    rw [h1, Bool.and_false]; rfl

/-- After the first point the body finds in result 3's buffer what the first point left there. -/
theorem before0_7 (c : Dev nD) (t : Fin cfg0.N) (ht : t.val ≠ 0) (d) : (dats m 0 c).before 7 t d = scaleOf m c := by
  have hN : cfg0.N = 37 := N_0
  have e := Dat.before_out_traj (dats m 0 c) 7 rfl (fun _ _ => rfl)
    (fun t _ _ _ => by rw [after0_7, after0_7]) t.val t rfl d
  obtain ⟨n, hn⟩ : ∃ n, t.val = n + 1 := ⟨t.val - 1, by omega⟩
  have hf : cfg0.fresh 7 t.val = false := by
    rw [hn]; exact fresh7 n (by have := t.isLt; omega)
  rw [hf, if_neg Bool.false_ne_true, after0_7] at e
  exact e

/-- Handing the buffer back at the first point's contents meets the obligation at every point. -/
theorem leaves7 (c : Dev nD) (t : Fin cfg0.N) :
    (owns (c : Thread nD τ) (ms0_7 t) fullShare (scaleOf m c) : sProp (MT nD τ sig Unit (Elt F) ℕ (UR sig nD τ) ℕ)) ⊢
      (match cfg0.idle 7 (cfg0.grid.coords t) with
        | true =>
          match (cfg0.win 7).flush t with
          | false => iprop(∃ d, owns (c : Thread nD τ) ((cfg0.win 7).stage (cfg0.slots t 7)) fullShare ((dats m 0 c).before 7 t d))
          | true => owns (c : Thread nD τ) ((cfg0.win 7).stage (cfg0.slots t 7)) fullShare ((dats m 0 c).after 7 t)
        | false => owns (c : Thread nD τ) ((cfg0.win 7).stage (cfg0.slots t 7)) fullShare ((dats m 0 c).after 7 t)) := by
  rw [after0_7]
  cases hi : cfg0.idle 7 (cfg0.grid.coords t)
  · exact .rfl
  · have ht : t.val ≠ 0 := fun h0 => (idle7_iff t).mp hi (by rw [h0])
    cases (cfg0.win 7).flush t
    · show _ ⊢ iprop(∃ d, owns (c : Thread nD τ) ((cfg0.win 7).stage (cfg0.slots t 7)) fullShare ((dats m 0 c).before 7 t d))
      iintro H
      iexists scaleOf m c
      rw [before0_7 m c t ht]
      iexact H
    · exact .rfl

/-! ## The body obligation, at a generic point -/

/-- What the body is called with at point `t`, the windows one by one, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare (codesOf m c)
    ∗ owns (c : Thread nD τ) (ms0_7 t) fullShare (scaleOf m c))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 37 := lt_of_lt_of_eq t.isLt (show cfg0.N = 37 from N_0)
  by_cases hz : t.val = 0
  · have h0 : t.val % 37 = 0 := by omega
    obtain rfl : t = t0 := Fin.ext hz
    unfold bodyPre bodyPost bodyAt0
    simp only [before0_0, before0_1, before0_2, before0_3, before0_4]
    rw [show (dats m 0 c).owesAt () (t0 : Fin cfg0.N).succ = (dats m 0 c).owesAt () (t0 : Fin cfg0.N).castSucc from rfl,
      after0_0, after0_1, after0_2, after0_3, after0_4, after0_5]
    rw [show (dats m 0 c).Φ (t0 : Fin cfg0.N).succ = PhiS m c ((t0 : Fin cfg0.N).val + 1) (t0 : Fin cfg0.N).isLt from rfl, PhiS_pos m c _ _ (Nat.succ_ne_zero _)]
    rw [PhiS_castSucc m c t0, PhiS_zero m c _ _ hz, PhiA0_eq, yOf_A m c t0 h0]
    unfold codesOf scaleOf xbOf scOf
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rA m c t0 h0).2.2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, ⟨%e5, H5⟩, ⟨%e6, H6⟩, ⟨%e7, H7⟩, ⟨%es0, HS0⟩, ⟨%es1, HS1⟩, ⟨%fT2, HS2⟩, ⟨%fT3, HS3⟩⟩
    isplitl [HS0 HS1 HS2 HS3 Hg]
    · isplitl [HS0 HS1 HS2 HS3]
      · isplitl [HS0]
        · unfold owns; iexists _; isplitr
          swap; · iexact HS0
          ipureintro; exact View.read_writes_eq_canon _ _ _ (coverA8 m c t0 h0)
        isplitl [HS1]
        · unfold owns; iexists _; isplitr
          swap; · iexact HS1
          ipureintro; exact View.read_writes_eq_canon _ _ _ (coverA9 m c t0 h0)
        isplitl [HS2]
        · iexists _; unfold owns; iexists _; isplitr
          swap; · iexact HS2
          ipureintro; rfl
        iexists _; unfold owns; iexists _; isplitr
        swap; · iexact HS3
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverA5 m c t0 h0)
    isplitl [H6]
    · unfold owns; iexists _; isplitr
      swap; · iexact H6
      ipureintro; exact View.read_writes_eq_canon _ _ _ (coverA6 m c t0 h0)
    unfold owns; iexists _; isplitr
    swap; · iexact H7
    ipureintro; exact View.read_writes_eq_canon _ _ _ (coverA7 m c t0 h0)
  · have h0 : ¬t.val % 37 = 0 := by omega
    unfold bodyPre bodyPost bodyAt0
    simp only [before0_0, before0_1, before0_2, before0_3, before0_4, before0_6 m c t hz, before0_7 m c t hz]
    rw [show (dats m 0 c).owesAt () t.succ = (dats m 0 c).owesAt () t.castSucc from rfl,
      after0_0, after0_1, after0_2, after0_3, after0_4, after0_5]
    rw [show (dats m 0 c).Φ t.succ = PhiS m c (t.val + 1) t.isLt from rfl, PhiS_pos m c _ _ (Nat.succ_ne_zero _)]
    rw [PhiS_castSucc m c t, PhiS_pos m c _ _ hz, yOf_B m c t h0]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rB m c t h0 (codesOf m c) (scaleOf m c) (xbOf m c) (scOf m c)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    isplitl [HS2]; · iexact HS2
    isplitl [HS3]; · iexact HS3
    iintro ⟨H0, H1, H2, H3, H4, ⟨%e5, H5⟩, H6, H7, HS0, HS1, ⟨%fT2, HS2⟩, ⟨%fT3, HS3⟩⟩
    isplitl [HS0 HS1 HS2 HS3 Hg]
    · isplitl [HS0 HS1 HS2 HS3]
      · isplitl [HS0]
        · iexact HS0
        isplitl [HS1]
        · iexact HS1
        isplitl [HS2]
        · iexists _; unfold owns; iexists _; isplitr
          swap; · iexact HS2
          ipureintro; rfl
        iexists _; unfold owns; iexists _; isplitr
        swap; · iexact HS3
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverB5 m c t h0 (codesOf m c) (scaleOf m c) (xbOf m c) (scOf m c))
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HP, Ho, H0, H1, H2, H3, H4, H5, H6, H7⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves6 m c t); iexact H6
  iapply (leaves7 m c t); iexact H7

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

theorem hout (c : Dev nD) : (dats m 0 c).Φ (Fin.last cfg0.N) ⊢ Pipeline.ΦA spec0 c :=
  Phi_out m c _ (by rw [Fin.val_last]; have : cfg0.N = 37 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every fair execution terminates with every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.Base.lean ====
/- The cells of the idealized kernel's buffers at a grid point, and the states its body starts from and ends in. -/
module

public import proofs.«01_k».proof.Proof.Gen.KernelIdeal.Skeleton
public import proofs.«01_k».proof.Proof.Gen.KernelIdeal.Frame
public import Idealize.ShloMosaic.Lib.Tactic
public import Idealize.ShloMosaic.Lib.WordCmp
public import Idealize.ShloMosaic.Lib.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The condition of the body's one branch: the grid point is the first. -/
abbrev cond0_0 (i : grid0.Coords) : Prop := k0_cond1 i = 1#1
/-- It holds at the first point only — by arithmetic of the point. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, k0_cond1, e0]
    word_cmp
   : ∀ t : Fin grid0.N, cond0_0 (grid0.coords t) ↔ t.val % 37 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl

/-- Each window's current staging memref at point `t`, spelled as the pipeline passes it (`bodyAt0`), and its wholeness. -/
abbrev ms0_0 (t : Fin cfg0.N) : Memref sig .tc .vmem S256x1920 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x1920 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x60 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x1920 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S640x60 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x640 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1920 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x1920 .bf16 := Memref.whole cc0_scratch0
abbrev scM0_1 : Memref sig .tc .vmem S256x128 .f32 := Memref.whole cc0_scratch1
abbrev scM0_2 : Memref sig .tc .vmem S640x1920 .bf16 := Memref.whole cc0_scratch2
abbrev scM0_3 : Memref sig .tc .vmem S640x1920 .bf16 := Memref.whole cc0_scratch3

/-- The region's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.RunA.lean ====
/- The body of the idealized kernel at the first grid point, where it also quantises the activations: what each of its stores writes. -/
module

public import proofs.«01_k».proof.Proof.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 40000000 in
/-- The body run at the first grid point: the stores it leaves in each buffer, as lists of pieces (last first), with the proof that
    the body, from the inputs' blocks, ends with those pieces written. -/
noncomputable def runA (c : Dev nD) (i : grid0.Coords) (arg1 : Memref sig .tc .vmem S256x1920 .bf16) (harg1 : arg1.IsWhole) (arg2 : Memref sig .tc .vmem S640x1920 .fp8e4m3) (harg2 : arg2.IsWhole) (arg3 : Memref sig .tc .vmem S640x60 .i8) (harg3 : arg3.IsWhole) (arg4 : Memref sig .tc .vmem S640x1920 .fp8e4m3) (harg4 : arg4.IsWhole) (arg5 : Memref sig .tc .vmem S640x60 .i8) (harg5 : arg5.IsWhole) (arg6 : Memref sig .tc .vmem S256x640 .bf16) (harg6 : arg6.IsWhole) (arg7 : Memref sig .tc .vmem S256x1920 .fp8e4m3) (harg7 : arg7.IsWhole) (arg8 : Memref sig .tc .vmem S256x1 .f32) (harg8 : arg8.IsWhole) (arg9 : Memref sig .tc .vmem S256x1920 .bf16) (harg9 : arg9.IsWhole) (arg10 : Memref sig .tc .vmem S256x128 .f32) (harg10 : arg10.IsWhole) (arg11 : Memref sig .tc .vmem S640x1920 .bf16) (harg11 : arg11.IsWhole) (arg12 : Memref sig .tc .vmem S640x1920 .bf16) (harg12 : arg12.IsWhole) (hc0 : cond0_0 i)
    (x0 : Vec F S256x1920 .bf16) (x1 : Vec F S640x1920 .fp8e4m3) (x2 : Vec F S640x60 .i8) (x3 : Vec F S640x1920 .fp8e4m3) (x4 : Vec F S640x60 .i8) :
    Σ' (L5 : List (View.Piece (Elt F) S256x640 .bf16)), Σ' (L6 : List (View.Piece (Elt F) S256x1920 .fp8e4m3)), Σ' (L7 : List (View.Piece (Elt F) S256x1 .f32)), Σ' (LS0 : List (View.Piece (Elt F) S256x1920 .bf16)), Σ' (LS1 : List (View.Piece (Elt F) S256x128 .f32)), Σ' (LT2 : List (View.Piece (Elt F) S640x1920 .bf16)), { LT3 : List (View.Piece (Elt F) S640x1920 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LT3)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__body_eq_skeleton]; unfold cc0__body_skel
    simp only [k0_part934_eq_skeleton, k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part935_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part936_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part937_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part938_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part939_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part940_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part941_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part942_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part943_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part944_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part661_eq_skeleton, k0_part662_eq_skeleton, k0_part945_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton, k0_part679_eq_skeleton, k0_part680_eq_skeleton, k0_part681_eq_skeleton, k0_part682_eq_skeleton, k0_part683_eq_skeleton, k0_part684_eq_skeleton, k0_part685_eq_skeleton, k0_part686_eq_skeleton, k0_part687_eq_skeleton, k0_part688_eq_skeleton, k0_part689_eq_skeleton, k0_part690_eq_skeleton, k0_part691_eq_skeleton, k0_part692_eq_skeleton, k0_part693_eq_skeleton, k0_part694_eq_skeleton, k0_part695_eq_skeleton, k0_part696_eq_skeleton, k0_part697_eq_skeleton, k0_part698_eq_skeleton, k0_part699_eq_skeleton, k0_part700_eq_skeleton, k0_part701_eq_skeleton, k0_part702_eq_skeleton, k0_part703_eq_skeleton, k0_part704_eq_skeleton, k0_part705_eq_skeleton, k0_part706_eq_skeleton, k0_part707_eq_skeleton, k0_part708_eq_skeleton, k0_part709_eq_skeleton, k0_part710_eq_skeleton, k0_part711_eq_skeleton, k0_part712_eq_skeleton, k0_part713_eq_skeleton, k0_part714_eq_skeleton, k0_part715_eq_skeleton, k0_part716_eq_skeleton, k0_part717_eq_skeleton, k0_part718_eq_skeleton, k0_part719_eq_skeleton, k0_part720_eq_skeleton, k0_part721_eq_skeleton, k0_part722_eq_skeleton, k0_part946_eq_skeleton, k0_part723_eq_skeleton, k0_part724_eq_skeleton, k0_part725_eq_skeleton, k0_part726_eq_skeleton, k0_part727_eq_skeleton, k0_part728_eq_skeleton, k0_part729_eq_skeleton, k0_part730_eq_skeleton, k0_part731_eq_skeleton, k0_part732_eq_skeleton, k0_part733_eq_skeleton, k0_part734_eq_skeleton, k0_part735_eq_skeleton, k0_part736_eq_skeleton, k0_part737_eq_skeleton, k0_part738_eq_skeleton, k0_part739_eq_skeleton, k0_part740_eq_skeleton, k0_part741_eq_skeleton, k0_part742_eq_skeleton, k0_part743_eq_skeleton, k0_part744_eq_skeleton, k0_part745_eq_skeleton, k0_part746_eq_skeleton, k0_part747_eq_skeleton, k0_part748_eq_skeleton, k0_part749_eq_skeleton, k0_part750_eq_skeleton, k0_part751_eq_skeleton, k0_part752_eq_skeleton, k0_part753_eq_skeleton, k0_part754_eq_skeleton, k0_part755_eq_skeleton, k0_part756_eq_skeleton, k0_part757_eq_skeleton, k0_part758_eq_skeleton, k0_part759_eq_skeleton, k0_part760_eq_skeleton, k0_part761_eq_skeleton, k0_part762_eq_skeleton, k0_part763_eq_skeleton, k0_part764_eq_skeleton, k0_part765_eq_skeleton, k0_part766_eq_skeleton, k0_part767_eq_skeleton, k0_part768_eq_skeleton, k0_part769_eq_skeleton, k0_part770_eq_skeleton, k0_part771_eq_skeleton, k0_part772_eq_skeleton, k0_part773_eq_skeleton, k0_part774_eq_skeleton, k0_part775_eq_skeleton, k0_part776_eq_skeleton, k0_part777_eq_skeleton, k0_part778_eq_skeleton, k0_part779_eq_skeleton, k0_part780_eq_skeleton, k0_part781_eq_skeleton, k0_part782_eq_skeleton, k0_part947_eq_skeleton, k0_part783_eq_skeleton, k0_part784_eq_skeleton, k0_part785_eq_skeleton, k0_part786_eq_skeleton, k0_part787_eq_skeleton, k0_part788_eq_skeleton, k0_part789_eq_skeleton, k0_part790_eq_skeleton, k0_part791_eq_skeleton, k0_part792_eq_skeleton, k0_part793_eq_skeleton, k0_part794_eq_skeleton, k0_part795_eq_skeleton, k0_part796_eq_skeleton, k0_part797_eq_skeleton, k0_part798_eq_skeleton, k0_part799_eq_skeleton, k0_part800_eq_skeleton, k0_part801_eq_skeleton, k0_part802_eq_skeleton, k0_part803_eq_skeleton, k0_part804_eq_skeleton, k0_part805_eq_skeleton, k0_part806_eq_skeleton, k0_part807_eq_skeleton, k0_part808_eq_skeleton, k0_part809_eq_skeleton, k0_part810_eq_skeleton, k0_part811_eq_skeleton, k0_part812_eq_skeleton, k0_part813_eq_skeleton, k0_part814_eq_skeleton, k0_part815_eq_skeleton, k0_part816_eq_skeleton, k0_part817_eq_skeleton, k0_part818_eq_skeleton, k0_part819_eq_skeleton, k0_part820_eq_skeleton, k0_part821_eq_skeleton, k0_part822_eq_skeleton, k0_part823_eq_skeleton, k0_part824_eq_skeleton, k0_part825_eq_skeleton, k0_part826_eq_skeleton, k0_part827_eq_skeleton, k0_part828_eq_skeleton, k0_part829_eq_skeleton, k0_part830_eq_skeleton, k0_part831_eq_skeleton, k0_part832_eq_skeleton, k0_part833_eq_skeleton, k0_part834_eq_skeleton, k0_part835_eq_skeleton, k0_part836_eq_skeleton, k0_part837_eq_skeleton, k0_part838_eq_skeleton, k0_part839_eq_skeleton, k0_part840_eq_skeleton, k0_part841_eq_skeleton, k0_part842_eq_skeleton, k0_part948_eq_skeleton, k0_part843_eq_skeleton, k0_part844_eq_skeleton, k0_part845_eq_skeleton, k0_part846_eq_skeleton, k0_part847_eq_skeleton, k0_part848_eq_skeleton, k0_part849_eq_skeleton, k0_part850_eq_skeleton, k0_part851_eq_skeleton, k0_part852_eq_skeleton, k0_part853_eq_skeleton, k0_part854_eq_skeleton, k0_part855_eq_skeleton, k0_part856_eq_skeleton, k0_part857_eq_skeleton, k0_part858_eq_skeleton, k0_part859_eq_skeleton, k0_part860_eq_skeleton, k0_part861_eq_skeleton, k0_part862_eq_skeleton, k0_part863_eq_skeleton, k0_part864_eq_skeleton, k0_part865_eq_skeleton, k0_part866_eq_skeleton, k0_part867_eq_skeleton, k0_part868_eq_skeleton, k0_part869_eq_skeleton, k0_part870_eq_skeleton, k0_part871_eq_skeleton, k0_part872_eq_skeleton, k0_part873_eq_skeleton, k0_part874_eq_skeleton, k0_part875_eq_skeleton, k0_part876_eq_skeleton, k0_part877_eq_skeleton, k0_part878_eq_skeleton, k0_part879_eq_skeleton, k0_part880_eq_skeleton, k0_part881_eq_skeleton, k0_part882_eq_skeleton, k0_part883_eq_skeleton, k0_part884_eq_skeleton, k0_part885_eq_skeleton, k0_part886_eq_skeleton, k0_part887_eq_skeleton, k0_part888_eq_skeleton, k0_part889_eq_skeleton, k0_part890_eq_skeleton, k0_part891_eq_skeleton, k0_part892_eq_skeleton, k0_part893_eq_skeleton, k0_part894_eq_skeleton, k0_part895_eq_skeleton, k0_part896_eq_skeleton, k0_part897_eq_skeleton, k0_part898_eq_skeleton, k0_part899_eq_skeleton, k0_part900_eq_skeleton, k0_part901_eq_skeleton, k0_part902_eq_skeleton, k0_part903_eq_skeleton, k0_part904_eq_skeleton, k0_part905_eq_skeleton, k0_part906_eq_skeleton, k0_part907_eq_skeleton, k0_part908_eq_skeleton, k0_part909_eq_skeleton, k0_part910_eq_skeleton, k0_part911_eq_skeleton, k0_part912_eq_skeleton, k0_part913_eq_skeleton, k0_part914_eq_skeleton, k0_part915_eq_skeleton, k0_part916_eq_skeleton, k0_part917_eq_skeleton, k0_part918_eq_skeleton, k0_part919_eq_skeleton, k0_part920_eq_skeleton, k0_part921_eq_skeleton, k0_part922_eq_skeleton, k0_part923_eq_skeleton, k0_part924_eq_skeleton, k0_part925_eq_skeleton, k0_part926_eq_skeleton, k0_part927_eq_skeleton, k0_part928_eq_skeleton, k0_part929_eq_skeleton, k0_part930_eq_skeleton, k0_part931_eq_skeleton, k0_part932_eq_skeleton, k0_part933_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [HS2]; · iexists _; iexact HS2
    iexists _; iexact HS3

end Cert.KernelIdeal.Hand

end
-- ==== Proof.RunB.lean ====
/- The body of the idealized kernel at every later grid point: what each of its stores writes. -/
module

public import proofs.«01_k».proof.Proof.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 40000000 in
/-- The body run at a later grid point: the stores it leaves in each buffer, as lists of pieces (last first), with the proof that
    the body, from the inputs' blocks, ends with those pieces written; the codes, the scale and the two carried scratch buffers end as they were. -/
noncomputable def runB (c : Dev nD) (i : grid0.Coords) (arg1 : Memref sig .tc .vmem S256x1920 .bf16) (harg1 : arg1.IsWhole) (arg2 : Memref sig .tc .vmem S640x1920 .fp8e4m3) (harg2 : arg2.IsWhole) (arg3 : Memref sig .tc .vmem S640x60 .i8) (harg3 : arg3.IsWhole) (arg4 : Memref sig .tc .vmem S640x1920 .fp8e4m3) (harg4 : arg4.IsWhole) (arg5 : Memref sig .tc .vmem S640x60 .i8) (harg5 : arg5.IsWhole) (arg6 : Memref sig .tc .vmem S256x640 .bf16) (harg6 : arg6.IsWhole) (arg7 : Memref sig .tc .vmem S256x1920 .fp8e4m3) (harg7 : arg7.IsWhole) (arg8 : Memref sig .tc .vmem S256x1 .f32) (harg8 : arg8.IsWhole) (arg9 : Memref sig .tc .vmem S256x1920 .bf16) (harg9 : arg9.IsWhole) (arg10 : Memref sig .tc .vmem S256x128 .f32) (harg10 : arg10.IsWhole) (arg11 : Memref sig .tc .vmem S640x1920 .bf16) (harg11 : arg11.IsWhole) (arg12 : Memref sig .tc .vmem S640x1920 .bf16) (harg12 : arg12.IsWhole) (hc0 : ¬cond0_0 i)
    (x0 : Vec F S256x1920 .bf16) (x1 : Vec F S640x1920 .fp8e4m3) (x2 : Vec F S640x60 .i8) (x3 : Vec F S640x1920 .fp8e4m3) (x4 : Vec F S640x60 .i8) (y6 : Vec F S256x1920 .fp8e4m3) (y7 : Vec F S256x1 .f32) (xs0 : Vec F S256x1920 .bf16) (xs1 : Vec F S256x128 .f32) :
    Σ' (L5 : List (View.Piece (Elt F) S256x640 .bf16)), Σ' (LT2 : List (View.Piece (Elt F) S640x1920 .bf16)), { LT3 : List (View.Piece (Elt F) S640x1920 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y6 ∗ owns (c : Thread nD τ) arg8 fullShare y7 ∗ owns (c : Thread nD τ) arg9 fullShare xs0 ∗ owns (c : Thread nD τ) arg10 fullShare xs1 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare y6 ∗ owns (c : Thread nD τ) arg8 fullShare y7 ∗ owns (c : Thread nD τ) arg9 fullShare xs0 ∗ owns (c : Thread nD τ) arg10 fullShare xs1 ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LT3)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__body_eq_skeleton]; unfold cc0__body_skel
    simp only [k0_part934_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part935_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part936_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part937_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part938_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part939_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part940_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part941_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part942_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part943_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part944_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part661_eq_skeleton, k0_part662_eq_skeleton, k0_part945_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton, k0_part679_eq_skeleton, k0_part680_eq_skeleton, k0_part681_eq_skeleton, k0_part682_eq_skeleton, k0_part683_eq_skeleton, k0_part684_eq_skeleton, k0_part685_eq_skeleton, k0_part686_eq_skeleton, k0_part687_eq_skeleton, k0_part688_eq_skeleton, k0_part689_eq_skeleton, k0_part690_eq_skeleton, k0_part691_eq_skeleton, k0_part692_eq_skeleton, k0_part693_eq_skeleton, k0_part694_eq_skeleton, k0_part695_eq_skeleton, k0_part696_eq_skeleton, k0_part697_eq_skeleton, k0_part698_eq_skeleton, k0_part699_eq_skeleton, k0_part700_eq_skeleton, k0_part701_eq_skeleton, k0_part702_eq_skeleton, k0_part703_eq_skeleton, k0_part704_eq_skeleton, k0_part705_eq_skeleton, k0_part706_eq_skeleton, k0_part707_eq_skeleton, k0_part708_eq_skeleton, k0_part709_eq_skeleton, k0_part710_eq_skeleton, k0_part711_eq_skeleton, k0_part712_eq_skeleton, k0_part713_eq_skeleton, k0_part714_eq_skeleton, k0_part715_eq_skeleton, k0_part716_eq_skeleton, k0_part717_eq_skeleton, k0_part718_eq_skeleton, k0_part719_eq_skeleton, k0_part720_eq_skeleton, k0_part721_eq_skeleton, k0_part722_eq_skeleton, k0_part946_eq_skeleton, k0_part723_eq_skeleton, k0_part724_eq_skeleton, k0_part725_eq_skeleton, k0_part726_eq_skeleton, k0_part727_eq_skeleton, k0_part728_eq_skeleton, k0_part729_eq_skeleton, k0_part730_eq_skeleton, k0_part731_eq_skeleton, k0_part732_eq_skeleton, k0_part733_eq_skeleton, k0_part734_eq_skeleton, k0_part735_eq_skeleton, k0_part736_eq_skeleton, k0_part737_eq_skeleton, k0_part738_eq_skeleton, k0_part739_eq_skeleton, k0_part740_eq_skeleton, k0_part741_eq_skeleton, k0_part742_eq_skeleton, k0_part743_eq_skeleton, k0_part744_eq_skeleton, k0_part745_eq_skeleton, k0_part746_eq_skeleton, k0_part747_eq_skeleton, k0_part748_eq_skeleton, k0_part749_eq_skeleton, k0_part750_eq_skeleton, k0_part751_eq_skeleton, k0_part752_eq_skeleton, k0_part753_eq_skeleton, k0_part754_eq_skeleton, k0_part755_eq_skeleton, k0_part756_eq_skeleton, k0_part757_eq_skeleton, k0_part758_eq_skeleton, k0_part759_eq_skeleton, k0_part760_eq_skeleton, k0_part761_eq_skeleton, k0_part762_eq_skeleton, k0_part763_eq_skeleton, k0_part764_eq_skeleton, k0_part765_eq_skeleton, k0_part766_eq_skeleton, k0_part767_eq_skeleton, k0_part768_eq_skeleton, k0_part769_eq_skeleton, k0_part770_eq_skeleton, k0_part771_eq_skeleton, k0_part772_eq_skeleton, k0_part773_eq_skeleton, k0_part774_eq_skeleton, k0_part775_eq_skeleton, k0_part776_eq_skeleton, k0_part777_eq_skeleton, k0_part778_eq_skeleton, k0_part779_eq_skeleton, k0_part780_eq_skeleton, k0_part781_eq_skeleton, k0_part782_eq_skeleton, k0_part947_eq_skeleton, k0_part783_eq_skeleton, k0_part784_eq_skeleton, k0_part785_eq_skeleton, k0_part786_eq_skeleton, k0_part787_eq_skeleton, k0_part788_eq_skeleton, k0_part789_eq_skeleton, k0_part790_eq_skeleton, k0_part791_eq_skeleton, k0_part792_eq_skeleton, k0_part793_eq_skeleton, k0_part794_eq_skeleton, k0_part795_eq_skeleton, k0_part796_eq_skeleton, k0_part797_eq_skeleton, k0_part798_eq_skeleton, k0_part799_eq_skeleton, k0_part800_eq_skeleton, k0_part801_eq_skeleton, k0_part802_eq_skeleton, k0_part803_eq_skeleton, k0_part804_eq_skeleton, k0_part805_eq_skeleton, k0_part806_eq_skeleton, k0_part807_eq_skeleton, k0_part808_eq_skeleton, k0_part809_eq_skeleton, k0_part810_eq_skeleton, k0_part811_eq_skeleton, k0_part812_eq_skeleton, k0_part813_eq_skeleton, k0_part814_eq_skeleton, k0_part815_eq_skeleton, k0_part816_eq_skeleton, k0_part817_eq_skeleton, k0_part818_eq_skeleton, k0_part819_eq_skeleton, k0_part820_eq_skeleton, k0_part821_eq_skeleton, k0_part822_eq_skeleton, k0_part823_eq_skeleton, k0_part824_eq_skeleton, k0_part825_eq_skeleton, k0_part826_eq_skeleton, k0_part827_eq_skeleton, k0_part828_eq_skeleton, k0_part829_eq_skeleton, k0_part830_eq_skeleton, k0_part831_eq_skeleton, k0_part832_eq_skeleton, k0_part833_eq_skeleton, k0_part834_eq_skeleton, k0_part835_eq_skeleton, k0_part836_eq_skeleton, k0_part837_eq_skeleton, k0_part838_eq_skeleton, k0_part839_eq_skeleton, k0_part840_eq_skeleton, k0_part841_eq_skeleton, k0_part842_eq_skeleton, k0_part948_eq_skeleton, k0_part843_eq_skeleton, k0_part844_eq_skeleton, k0_part845_eq_skeleton, k0_part846_eq_skeleton, k0_part847_eq_skeleton, k0_part848_eq_skeleton, k0_part849_eq_skeleton, k0_part850_eq_skeleton, k0_part851_eq_skeleton, k0_part852_eq_skeleton, k0_part853_eq_skeleton, k0_part854_eq_skeleton, k0_part855_eq_skeleton, k0_part856_eq_skeleton, k0_part857_eq_skeleton, k0_part858_eq_skeleton, k0_part859_eq_skeleton, k0_part860_eq_skeleton, k0_part861_eq_skeleton, k0_part862_eq_skeleton, k0_part863_eq_skeleton, k0_part864_eq_skeleton, k0_part865_eq_skeleton, k0_part866_eq_skeleton, k0_part867_eq_skeleton, k0_part868_eq_skeleton, k0_part869_eq_skeleton, k0_part870_eq_skeleton, k0_part871_eq_skeleton, k0_part872_eq_skeleton, k0_part873_eq_skeleton, k0_part874_eq_skeleton, k0_part875_eq_skeleton, k0_part876_eq_skeleton, k0_part877_eq_skeleton, k0_part878_eq_skeleton, k0_part879_eq_skeleton, k0_part880_eq_skeleton, k0_part881_eq_skeleton, k0_part882_eq_skeleton, k0_part883_eq_skeleton, k0_part884_eq_skeleton, k0_part885_eq_skeleton, k0_part886_eq_skeleton, k0_part887_eq_skeleton, k0_part888_eq_skeleton, k0_part889_eq_skeleton, k0_part890_eq_skeleton, k0_part891_eq_skeleton, k0_part892_eq_skeleton, k0_part893_eq_skeleton, k0_part894_eq_skeleton, k0_part895_eq_skeleton, k0_part896_eq_skeleton, k0_part897_eq_skeleton, k0_part898_eq_skeleton, k0_part899_eq_skeleton, k0_part900_eq_skeleton, k0_part901_eq_skeleton, k0_part902_eq_skeleton, k0_part903_eq_skeleton, k0_part904_eq_skeleton, k0_part905_eq_skeleton, k0_part906_eq_skeleton, k0_part907_eq_skeleton, k0_part908_eq_skeleton, k0_part909_eq_skeleton, k0_part910_eq_skeleton, k0_part911_eq_skeleton, k0_part912_eq_skeleton, k0_part913_eq_skeleton, k0_part914_eq_skeleton, k0_part915_eq_skeleton, k0_part916_eq_skeleton, k0_part917_eq_skeleton, k0_part918_eq_skeleton, k0_part919_eq_skeleton, k0_part920_eq_skeleton, k0_part921_eq_skeleton, k0_part922_eq_skeleton, k0_part923_eq_skeleton, k0_part924_eq_skeleton, k0_part925_eq_skeleton, k0_part926_eq_skeleton, k0_part927_eq_skeleton, k0_part928_eq_skeleton, k0_part929_eq_skeleton, k0_part930_eq_skeleton, k0_part931_eq_skeleton, k0_part932_eq_skeleton, k0_part933_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    isplitl [HS1]
    · iexists _; isplitr; · ipureintro; exact harg10.read_unread _
      iexact HS1
    isplitl [HS2]; · iexists _; iexact HS2
    iexists _; iexact HS3

end Cert.KernelIdeal.Hand

end
-- ==== Proof.Pipe.lean ====
/- The idealized kernel's pipeline: what every point leaves in its windows and scratch, the run of the whole program, and its frame.
   Results two and three are stored at the first point alone and their one block is kept until it is written back after the last. -/
module

public import proofs.«01_k».proof.Proof.RunA
public import proofs.«01_k».proof.Proof.RunB
public import Idealize.ShloMosaic.Lib.Pipeline.TableIdle
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What each grid point leaves in the buffers -/

/-- The first grid point. -/
abbrev t0 : Fin cfg0.N := ⟨0, by rw [show cfg0.N = 37 from N_0]; omega⟩

theorem t0_mod : (t0 : Fin cfg0.N).val % 37 = 0 := rfl

/-- The body's run at a point where the branch is taken, at that point's buffers and blocks. -/
abbrev rA (c : Dev nD) (t : Fin cfg0.N) (h : t.val % 37 = 0) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h) (iblk m c 0 t) (iblk m c 1 t) (iblk m c 2 t) (iblk m c 3 t) (iblk m c 4 t)

/-- The body's run at any other point, over what its output buffers and the two carried scratch buffers hold. -/
abbrev rB (c : Dev nD) (t : Fin cfg0.N) (h : ¬t.val % 37 = 0) (y6 : Vec F S256x1920 .fp8e4m3) (y7 : Vec F S256x1 .f32) (xs0 : Vec F S256x1920 .bf16) (xs1 : Vec F S256x128 .f32) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h' => h ((hcond0_0 t).mp h')) (iblk m c 0 t) (iblk m c 1 t) (iblk m c 2 t) (iblk m c 3 t) (iblk m c 4 t) y6 y7 xs0 xs1

/-- The pieces the first point stores cover each buffer it writes whole. -/
theorem coverA5 (c : Dev nD) (t : Fin cfg0.N) (h) (y : S256x640.Idx) : ∃ pc ∈ (rA m c t h).1, y ∈ pc.1.set :=
  View.cover_of_tiledL (rA m c t h).1 ![256, 128] (by sl_kernel_rfl) y
theorem coverA6 (c : Dev nD) (t : Fin cfg0.N) (h) (y : S256x1920.Idx) : ∃ pc ∈ (rA m c t h).2.1, y ∈ pc.1.set :=
  View.cover_of_tiledL (rA m c t h).2.1 S256x1920.size (by sl_kernel_rfl) y
theorem coverA7 (c : Dev nD) (t : Fin cfg0.N) (h) (y : S256x1.Idx) : ∃ pc ∈ (rA m c t h).2.2.1, y ∈ pc.1.set :=
  View.cover_of_tiledL (rA m c t h).2.2.1 S256x1.size (by sl_kernel_rfl) y
theorem coverA8 (c : Dev nD) (t : Fin cfg0.N) (h) (y : S256x1920.Idx) : ∃ pc ∈ (rA m c t h).2.2.2.1, y ∈ pc.1.set :=
  View.cover_of_tiledL (rA m c t h).2.2.2.1 S256x1920.size (by sl_kernel_rfl) y
theorem coverA9 (c : Dev nD) (t : Fin cfg0.N) (h) (y : S256x128.Idx) : ∃ pc ∈ (rA m c t h).2.2.2.2.1, y ∈ pc.1.set :=
  View.cover_of_tiledL (rA m c t h).2.2.2.2.1 S256x128.size (by sl_kernel_rfl) y
/-- So do the pieces any other point stores into the first result's block. -/
theorem coverB5 (c : Dev nD) (t : Fin cfg0.N) (h) (y6) (y7) (xs0) (xs1) (y : S256x640.Idx) : ∃ pc ∈ (rB m c t h y6 y7 xs0 xs1).1, y ∈ pc.1.set :=
  View.cover_of_tiledL (rB m c t h y6 y7 xs0 xs1).1 ![256, 128] (by sl_kernel_rfl) y

/-- The codes, the scale and the two scratch copies of them that the first point leaves. -/
def codesOf (c : Dev nD) : Vec F S256x1920 .fp8e4m3 := View.canon (rA m c t0 t0_mod).2.1
def scaleOf (c : Dev nD) : Vec F S256x1 .f32 := View.canon (rA m c t0 t0_mod).2.2.1
def xbOf (c : Dev nD) : Vec F S256x1920 .bf16 := View.canon (rA m c t0 t0_mod).2.2.2.1
def scOf (c : Dev nD) : Vec F S256x128 .f32 := View.canon (rA m c t0 t0_mod).2.2.2.2.1
/-- The first result's block after point `t`. -/
def yOf (c : Dev nD) (t : Fin cfg0.N) : Vec F S256x640 .bf16 :=
  if h : t.val % 37 = 0 then View.canon (rA m c t h).1
  else View.canon (rB m c t h (codesOf m c) (scaleOf m c) (xbOf m c) (scOf m c)).1

theorem yOf_A (c : Dev nD) (t : Fin cfg0.N) (h : t.val % 37 = 0) : yOf m c t = View.canon (rA m c t h).1 := dif_pos h
theorem yOf_B (c : Dev nD) (t : Fin cfg0.N) (h : ¬t.val % 37 = 0) :
    yOf m c t = View.canon (rB m c t h (codesOf m c) (scaleOf m c) (xbOf m c) (scOf m c)).1 := dif_neg h

/-! ## The pipeline's proof data -/

/-- The invariant before position `n`: before the first point every scratch buffer holds anything; afterwards the first two
    hold the codes and the scale. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare (xbOf m c) ∗ owns (c : Thread nD τ) scM0_1 fullShare (scOf m c) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (xbOf m c) ∗ owns (c : Thread nD τ) scM0_1 fullShare (scOf m c) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-- The proof data: the arrays as launched; each input's buffer at its block; the outputs' at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yOf m c t
    | ⟨6, _⟩ => codesOf m c
    | ⟨7, _⟩ => scaleOf m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yOf m c t := by dsimp only [dats]
theorem after0_6 (c : Dev nD) (t : Fin cfg0.N) : (dats m 0 c).after 6 t = codesOf m c := by dsimp only [dats]
theorem after0_7 (c : Dev nD) (t : Fin cfg0.N) : (dats m 0 c).after 7 t = scaleOf m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The two results stored at the first point only -/

theorem idle6_iff (t : Fin cfg0.N) : cfg0.idle 6 (grid0.coords t) = true ↔ ¬t.val % 37 = 0 := by
  show (!(k0_cond1 (grid0.coords t) == 1#1)) = true ↔ _
  rw [← hcond0_0 t]
  simp [cond0_0]

/-- Result 2's buffer is fresh at the first point only. -/
theorem fresh6 : ∀ n, n + 1 < 37 → cfg0.fresh 6 (n + 1) = false
  | 0, h => by
    have hN : cfg0.N = 37 := N_0
    have h0 : 0 < cfg0.N := by omega
    rw [Cfg.fresh_succ cfg0 6 0 h0]
    have h1 : (cfg0.win 6).flush ⟨0, h0⟩ = false := by
      rw [Bool.eq_false_iff, ne_eq, flush0_6 ⟨0, h0⟩]; show ¬ 0 % 37 = 36; omega
    have h2 : cfg0.idle 6 (cfg0.grid.coords ⟨0, h0⟩) = false := by
      rw [Bool.eq_false_iff, ne_eq]; intro hh; exact (idle6_iff ⟨0, h0⟩).mp hh rfl
    rw [h1, h2]; rfl
  | n + 1, h => by
    have hN : cfg0.N = 37 := N_0
    have h0 : n + 1 < cfg0.N := by omega
    rw [Cfg.fresh_succ cfg0 6 (n + 1) h0, fresh6 n (by omega)]
    have h1 : (cfg0.win 6).flush ⟨n + 1, h0⟩ = false := by
      rw [Bool.eq_false_iff, ne_eq, flush0_6 ⟨n + 1, h0⟩]; show ¬ (n + 1) % 37 = 36; omega
    rw [h1, Bool.and_false]; rfl

/-- After the first point the body finds in result 2's buffer what the first point left there. -/
theorem before0_6 (c : Dev nD) (t : Fin cfg0.N) (ht : t.val ≠ 0) (d) : (dats m 0 c).before 6 t d = codesOf m c := by
  have hN : cfg0.N = 37 := N_0
  have e := Dat.before_out_traj (dats m 0 c) 6 rfl (fun _ _ => rfl)
    (fun t _ _ _ => by rw [after0_6, after0_6]) t.val t rfl d
  obtain ⟨n, hn⟩ : ∃ n, t.val = n + 1 := ⟨t.val - 1, by omega⟩
  have hf : cfg0.fresh 6 t.val = false := by
    rw [hn]; exact fresh6 n (by have := t.isLt; omega)
  rw [hf, if_neg Bool.false_ne_true, after0_6] at e
  exact e

/-- Handing the buffer back at the first point's contents meets the obligation at every point. -/
theorem leaves6 (c : Dev nD) (t : Fin cfg0.N) :
    (owns (c : Thread nD τ) (ms0_6 t) fullShare (codesOf m c) : sProp (MT nD τ sig Unit (Elt F) ℕ (UR sig nD τ) ℕ)) ⊢
      (match cfg0.idle 6 (cfg0.grid.coords t) with
        | true =>
          match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t)) := by
  rw [after0_6]
  cases hi : cfg0.idle 6 (cfg0.grid.coords t)
  · exact .rfl
  · have ht : t.val ≠ 0 := fun h0 => (idle6_iff t).mp hi (by rw [h0])
    cases (cfg0.win 6).flush t
    · show _ ⊢ iprop(∃ d, owns (c : Thread nD τ) ((cfg0.win 6).stage (cfg0.slots t 6)) fullShare ((dats m 0 c).before 6 t d))
      iintro H
      iexists codesOf m c
      rw [before0_6 m c t ht]
      iexact H
    · exact .rfl

theorem idle7_iff (t : Fin cfg0.N) : cfg0.idle 7 (grid0.coords t) = true ↔ ¬t.val % 37 = 0 := by
  show (!(k0_cond1 (grid0.coords t) == 1#1)) = true ↔ _
  rw [← hcond0_0 t]
  simp [cond0_0]

/-- Result 3's buffer is fresh at the first point only. -/
theorem fresh7 : ∀ n, n + 1 < 37 → cfg0.fresh 7 (n + 1) = false
  | 0, h => by
    have hN : cfg0.N = 37 := N_0
    have h0 : 0 < cfg0.N := by omega
    rw [Cfg.fresh_succ cfg0 7 0 h0]
    have h1 : (cfg0.win 7).flush ⟨0, h0⟩ = false := by
      rw [Bool.eq_false_iff, ne_eq, flush0_7 ⟨0, h0⟩]; show ¬ 0 % 37 = 36; omega
    have h2 : cfg0.idle 7 (cfg0.grid.coords ⟨0, h0⟩) = false := by
      rw [Bool.eq_false_iff, ne_eq]; intro hh; exact (idle7_iff ⟨0, h0⟩).mp hh rfl
    rw [h1, h2]; rfl
  | n + 1, h => by
    have hN : cfg0.N = 37 := N_0
    have h0 : n + 1 < cfg0.N := by omega
    rw [Cfg.fresh_succ cfg0 7 (n + 1) h0, fresh7 n (by omega)]
    have h1 : (cfg0.win 7).flush ⟨n + 1, h0⟩ = false := by
      rw [Bool.eq_false_iff, ne_eq, flush0_7 ⟨n + 1, h0⟩]; show ¬ (n + 1) % 37 = 36; omega
    rw [h1, Bool.and_false]; rfl

/-- After the first point the body finds in result 3's buffer what the first point left there. -/
theorem before0_7 (c : Dev nD) (t : Fin cfg0.N) (ht : t.val ≠ 0) (d) : (dats m 0 c).before 7 t d = scaleOf m c := by
  have hN : cfg0.N = 37 := N_0
  have e := Dat.before_out_traj (dats m 0 c) 7 rfl (fun _ _ => rfl)
    (fun t _ _ _ => by rw [after0_7, after0_7]) t.val t rfl d
  obtain ⟨n, hn⟩ : ∃ n, t.val = n + 1 := ⟨t.val - 1, by omega⟩
  have hf : cfg0.fresh 7 t.val = false := by
    rw [hn]; exact fresh7 n (by have := t.isLt; omega)
  rw [hf, if_neg Bool.false_ne_true, after0_7] at e
  exact e

/-- Handing the buffer back at the first point's contents meets the obligation at every point. -/
theorem leaves7 (c : Dev nD) (t : Fin cfg0.N) :
    (owns (c : Thread nD τ) (ms0_7 t) fullShare (scaleOf m c) : sProp (MT nD τ sig Unit (Elt F) ℕ (UR sig nD τ) ℕ)) ⊢
      (match cfg0.idle 7 (cfg0.grid.coords t) with
        | true =>
          match (cfg0.win 7).flush t with
          | false => iprop(∃ d, owns (c : Thread nD τ) ((cfg0.win 7).stage (cfg0.slots t 7)) fullShare ((dats m 0 c).before 7 t d))
          | true => owns (c : Thread nD τ) ((cfg0.win 7).stage (cfg0.slots t 7)) fullShare ((dats m 0 c).after 7 t)
        | false => owns (c : Thread nD τ) ((cfg0.win 7).stage (cfg0.slots t 7)) fullShare ((dats m 0 c).after 7 t)) := by
  rw [after0_7]
  cases hi : cfg0.idle 7 (cfg0.grid.coords t)
  · exact .rfl
  · have ht : t.val ≠ 0 := fun h0 => (idle7_iff t).mp hi (by rw [h0])
    cases (cfg0.win 7).flush t
    · show _ ⊢ iprop(∃ d, owns (c : Thread nD τ) ((cfg0.win 7).stage (cfg0.slots t 7)) fullShare ((dats m 0 c).before 7 t d))
      iintro H
      iexists scaleOf m c
      rw [before0_7 m c t ht]
      iexact H
    · exact .rfl

/-! ## The body obligation, at a generic point -/

/-- What the body is called with at point `t`, the windows one by one, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare (codesOf m c)
    ∗ owns (c : Thread nD τ) (ms0_7 t) fullShare (scaleOf m c))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 37 := lt_of_lt_of_eq t.isLt (show cfg0.N = 37 from N_0)
  by_cases hz : t.val = 0
  · have h0 : t.val % 37 = 0 := by omega
    obtain rfl : t = t0 := Fin.ext hz
    unfold bodyPre bodyPost bodyAt0
    simp only [before0_0, before0_1, before0_2, before0_3, before0_4]
    rw [show (dats m 0 c).owesAt () (t0 : Fin cfg0.N).succ = (dats m 0 c).owesAt () (t0 : Fin cfg0.N).castSucc from rfl,
      after0_0, after0_1, after0_2, after0_3, after0_4, after0_5]
    rw [show (dats m 0 c).Φ (t0 : Fin cfg0.N).succ = PhiS m c ((t0 : Fin cfg0.N).val + 1) (t0 : Fin cfg0.N).isLt from rfl, PhiS_pos m c _ _ (Nat.succ_ne_zero _)]
    rw [PhiS_castSucc m c t0, PhiS_zero m c _ _ hz, PhiA0_eq, yOf_A m c t0 h0]
    unfold codesOf scaleOf xbOf scOf
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rA m c t0 h0).2.2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, ⟨%e5, H5⟩, ⟨%e6, H6⟩, ⟨%e7, H7⟩, ⟨%es0, HS0⟩, ⟨%es1, HS1⟩, ⟨%fT2, HS2⟩, ⟨%fT3, HS3⟩⟩
    isplitl [HS0 HS1 HS2 HS3 Hg]
    · isplitl [HS0 HS1 HS2 HS3]
      · isplitl [HS0]
        · unfold owns; iexists _; isplitr
          swap; · iexact HS0
          ipureintro; exact View.read_writes_eq_canon _ _ _ (coverA8 m c t0 h0)
        isplitl [HS1]
        · unfold owns; iexists _; isplitr
          swap; · iexact HS1
          ipureintro; exact View.read_writes_eq_canon _ _ _ (coverA9 m c t0 h0)
        isplitl [HS2]
        · iexists _; unfold owns; iexists _; isplitr
          swap; · iexact HS2
          ipureintro; rfl
        iexists _; unfold owns; iexists _; isplitr
        swap; · iexact HS3
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverA5 m c t0 h0)
    isplitl [H6]
    · unfold owns; iexists _; isplitr
      swap; · iexact H6
      ipureintro; exact View.read_writes_eq_canon _ _ _ (coverA6 m c t0 h0)
    unfold owns; iexists _; isplitr
    swap; · iexact H7
    ipureintro; exact View.read_writes_eq_canon _ _ _ (coverA7 m c t0 h0)
  · have h0 : ¬t.val % 37 = 0 := by omega
    unfold bodyPre bodyPost bodyAt0
    simp only [before0_0, before0_1, before0_2, before0_3, before0_4, before0_6 m c t hz, before0_7 m c t hz]
    rw [show (dats m 0 c).owesAt () t.succ = (dats m 0 c).owesAt () t.castSucc from rfl,
      after0_0, after0_1, after0_2, after0_3, after0_4, after0_5]
    rw [show (dats m 0 c).Φ t.succ = PhiS m c (t.val + 1) t.isLt from rfl, PhiS_pos m c _ _ (Nat.succ_ne_zero _)]
    rw [PhiS_castSucc m c t, PhiS_pos m c _ _ hz, yOf_B m c t h0]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rB m c t h0 (codesOf m c) (scaleOf m c) (xbOf m c) (scOf m c)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    isplitl [HS2]; · iexact HS2
    isplitl [HS3]; · iexact HS3
    iintro ⟨H0, H1, H2, H3, H4, ⟨%e5, H5⟩, H6, H7, HS0, HS1, ⟨%fT2, HS2⟩, ⟨%fT3, HS3⟩⟩
    isplitl [HS0 HS1 HS2 HS3 Hg]
    · isplitl [HS0 HS1 HS2 HS3]
      · isplitl [HS0]
        · iexact HS0
        isplitl [HS1]
        · iexact HS1
        isplitl [HS2]
        · iexists _; unfold owns; iexists _; isplitr
          swap; · iexact HS2
          ipureintro; rfl
        iexists _; unfold owns; iexists _; isplitr
        swap; · iexact HS3
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverB5 m c t h0 (codesOf m c) (scaleOf m c) (xbOf m c) (scOf m c))
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HP, Ho, H0, H1, H2, H3, H4, H5, H6, H7⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves6 m c t); iexact H6
  iapply (leaves7 m c t); iexact H7

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

theorem hout (c : Dev nD) : (dats m 0 c).Φ (Fin.last cfg0.N) ⊢ Pipeline.ΦA spec0 c :=
  Phi_out m c _ (by rw [Fin.val_last]; have : cfg0.N = 37 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every fair execution terminates with every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Tile.lean ====
/- One tile of a weight as the kernel builds it (32 rows by 128 lanes), entry by entry: the code times the scale of the lane's block of 32. -/
module

public import proofs.«01_k».proof.Proof.Gen.KernelIdeal.Skeleton
public import Idealize.ShloMosaic.Lib.Tactic
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

/-! # One tile of the dequantised weight

The kernel dequantises a block of a weight tile by tile, 32 rows by 128 lanes: the tile's codes times the powers of two that
the tile's rows' scale bytes name, each byte spread over the 32 lanes of its block by a gather of the row's scales. -/

section
variable {F : FTy → Type} [FloatOps F]

/-- The column of the scales that each lane of chunk `ch / 4` reads: `lane / 32 + ch`, as the kernel computes it
    (a floor division spelt with a truncating division, the two signs and a remainder). -/
def laneIdx (ch : BitVec 32) : IVec S8x128 32 :=
  have a : IVec S8x128 32 := iota .tc S8x128 32 [1] iota_S8x128_d1_w32
  have b : IVec S8x128 32 := divsi a (broadcast S8x128 32#32)
  have c : IVec S8x128 32 := extui 32 (cmpi .sgt a (broadcast S8x128 0#32)) natLt_1_32
  have d : IVec S8x128 32 := extui 32 (cmpi .slt a (broadcast S8x128 0#32)) natLt_1_32
  have e : IVec S8x128 32 := subi c d
  have f : BitVec 32 := Scalar.subi (Scalar.extui (Scalar.cmpi .sgt 32#32 0#32)) (Scalar.extui (Scalar.cmpi .slt 32#32 0#32))
  have g : IVec S8x128 1 := cmpi .ne e (broadcast S8x128 f)
  have h : IVec S8x128 1 := cmpi .ne (remsi a (broadcast S8x128 32#32)) (broadcast S8x128 0#32)
  addi (select (andi g h) (subi b (broadcast S8x128 1#32)) b) (broadcast S8x128 ch)

/-- 32 rows of scale bytes as powers of two, put in the first lanes of 128. -/
def scaleRows (s : Vec F S32x60 .i8) : FVec F S32x128 .f32 :=
  have a : IVec S32x60 32 := shli (extui 32 s natLt_8_32) (broadcast S32x60 23#32)
  have b : FVec F S32x60 .bf16 := truncf .bf16 (bitcastToFloat .f32 a) bitsLt_bf16_f32
  have z : FVec F S32x68 .bf16 := broadcast S32x68 (Scalar.ofBits .bf16 0x0000#16)
  extf .f32 (concatenate S32x128 1 [⟨S32x60, b⟩, ⟨S32x68, z⟩] concatenates_S32x60_S32x68_S32x128_d1) bitsLt_bf16_f32

/-- The scales spread over the lanes, eight rows at a time, times the codes. -/
def spread (ix : IVec S8x128 32) (s : FVec F S32x128 .f32) (w : Vec F S32x128 .fp8e4m3) : FVec F S32x128 .bf16 :=
  have b0 : FVec F S8x128 .f32 := extractStridedSlice S8x128 ![0, 0] s slices_S32x128_o0_0_S8x128
  have c0 : IVec S8x128 1 := cmpi .slt ix (broadcast S8x128 0#32)
  have d0 : IVec S8x128 32 := addi ix (broadcast S8x128 128#32)
  have i0 : IVec S8x128x1 32 := shapeCast S8x128x1 (select c0 d0 ix) shapeCasts_S8x128_S8x128x1
  have j0 : IVec S8x128 32 := shapeCast S8x128 i0 shapeCasts_S8x128x1_S8x128
  have g0 : FVec F S8x128 .f32 := dynamicGather 1 b0 j0
  have b1 : FVec F S8x128 .f32 := extractStridedSlice S8x128 ![8, 0] s slices_S32x128_o8_0_S8x128
  have c1 : IVec S8x128 1 := cmpi .slt ix (broadcast S8x128 0#32)
  have d1 : IVec S8x128 32 := addi ix (broadcast S8x128 128#32)
  have i1 : IVec S8x128x1 32 := shapeCast S8x128x1 (select c1 d1 ix) shapeCasts_S8x128_S8x128x1
  have j1 : IVec S8x128 32 := shapeCast S8x128 i1 shapeCasts_S8x128x1_S8x128
  have g1 : FVec F S8x128 .f32 := dynamicGather 1 b1 j1
  have b2 : FVec F S8x128 .f32 := extractStridedSlice S8x128 ![16, 0] s slices_S32x128_o16_0_S8x128
  have c2 : IVec S8x128 1 := cmpi .slt ix (broadcast S8x128 0#32)
  have d2 : IVec S8x128 32 := addi ix (broadcast S8x128 128#32)
  have i2 : IVec S8x128x1 32 := shapeCast S8x128x1 (select c2 d2 ix) shapeCasts_S8x128_S8x128x1
  have j2 : IVec S8x128 32 := shapeCast S8x128 i2 shapeCasts_S8x128x1_S8x128
  have g2 : FVec F S8x128 .f32 := dynamicGather 1 b2 j2
  have b3 : FVec F S8x128 .f32 := extractStridedSlice S8x128 ![24, 0] s slices_S32x128_o24_0_S8x128
  have c3 : IVec S8x128 1 := cmpi .slt ix (broadcast S8x128 0#32)
  have d3 : IVec S8x128 32 := addi ix (broadcast S8x128 128#32)
  have i3 : IVec S8x128x1 32 := shapeCast S8x128x1 (select c3 d3 ix) shapeCasts_S8x128_S8x128x1
  have j3 : IVec S8x128 32 := shapeCast S8x128 i3 shapeCasts_S8x128x1_S8x128
  have g3 : FVec F S8x128 .f32 := dynamicGather 1 b3 j3
  have t : FVec F S32x128 .f32 := concatenate S32x128 0 [⟨S8x128, g0⟩, ⟨S8x128, g1⟩, ⟨S8x128, g2⟩, ⟨S8x128, g3⟩] concatenates_S8x128_S8x128_S8x128_S8x128_S32x128_d0
  shapeCast S32x128 (mulf (extf .bf16 w bitsLt_fp8e4m3_bf16) (truncf .bf16 t bitsLt_bf16_f32)) shapeCasts_S32x128_S32x128

/-- One tile, from its rows' scale bytes and its codes. -/
def tile (ch : BitVec 32) (s : Vec F S32x60 .i8) (w : Vec F S32x128 .fp8e4m3) : FVec F S32x128 .bf16 :=
  spread (laneIdx ch) (scaleRows s) w
end

/-! ## What a tile holds over the extended reals -/

/-- The lane index, as a number. -/
theorem laneIdx_apply (q : ℕ) (hq : 4 * q + 4 ≤ 128) (r : Fin 8) (l : Fin 128) :
    laneIdx (BitVec.ofNat 32 (4 * q)) (ix2 r l) = BitVec.ofNat 32 (l.val / 32 + 4 * q) := by
  have key : laneIdx 0#32 (ix2 r l) = BitVec.ofNat 32 (l.val / 32) := by
    have h : ∀ l : Fin 128, laneIdx 0#32 (ix2 (0 : Fin 8) l) = BitVec.ofNat 32 (l.val / 32) := by decide +kernel
    have e : laneIdx 0#32 (ix2 r l) = laneIdx 0#32 (ix2 (0 : Fin 8) l) := rfl
    rw [e, h]
  have e2 : laneIdx (BitVec.ofNat 32 (4 * q)) (ix2 r l) = laneIdx 0#32 (ix2 r l) + BitVec.ofNat 32 (4 * q) := by
    simp only [laneIdx, addi, IntOp.addi, broadcast, BitVec.add_zero]
  rw [e2, key, BitVec.ofNat_add]

/-- The scale rows at a lane that holds a scale. -/
theorem scaleRows_apply (s : Vec Ideal S32x60 .i8) (r : Fin 32) (k : Fin 128) (hk : k.val < 60) :
    scaleRows (F := Ideal) s (ix2 r k) = Ideal.ofBits .f32 ((s (ix2 r ⟨k.val, hk⟩)).zeroExtend 32 <<< 23) := by
  pointwise [scaleRows]
  rw [dif_pos hk]
  rfl

/-- A lane number is not negative, so the gather's own reading of it is the number. -/
theorem lane_word (k : Fin 128) : (Scalar.select (IntOp.cmpi .slt (BitVec.ofNat 32 k.val) 0#32)
    (IntOp.addi (BitVec.ofNat 32 k.val) 128#32) (BitVec.ofNat 32 k.val)).toNat % 128 = k.val := by
  revert k; decide +kernel

/-- The spread scales times the codes, at an entry. -/
theorem spread_apply (ix : IVec S8x128 32) (s : FVec Ideal S32x128 .f32) (w : Vec Ideal S32x128 .fp8e4m3) (r : Fin 32) (l : Fin 128)
    (k : Fin 128) (hk : ∀ r' : Fin 8, ix (ix2 r' l) = BitVec.ofNat 32 k.val) :
    spread (F := Ideal) ix s w (ix2 r l) = (w (ix2 r l) : EReal) * s (ix2 r k) := by
  pointwise [spread]
  simp only [hk, lane_word]
  refine congrArg _ ?_
  split_ifs <;> first
    | rfl
    | exact congrArg s (congrArg₂ ix2 (Fin.ext (by simp only []; omega)) rfl)

/-- A tile's entry: the code times the power of two its scale byte names. -/
theorem tile_apply (q : ℕ) (hq : 4 * q + 4 ≤ 60) (s : Vec Ideal S32x60 .i8) (w : Vec Ideal S32x128 .fp8e4m3) (r : Fin 32) (l : Fin 128) :
    tile (F := Ideal) (BitVec.ofNat 32 (4 * q)) s w (ix2 r l)
      = (w (ix2 r l) : EReal) * Ideal.ofBits .f32 ((s (ix2 r ⟨l.val / 32 + 4 * q, by omega⟩)).zeroExtend 32 <<< 23) := by
  have hl := l.isLt
  rw [tile, spread_apply _ _ _ r l ⟨l.val / 32 + 4 * q, by omega⟩ (fun r' => laneIdx_apply q (by omega) r' l),
    scaleRows_apply s r ⟨l.val / 32 + 4 * q, by omega⟩ (by simp only []; omega)]

end Cert.KernelIdeal.Hand

end
-- ==== Proof.Lists.lean ====
/- The tiles a weight's scratch is stored in, and the column blocks the first result's window is stored in, as lists. -/
module

public import proofs.«01_k».proof.Proof.Tile
public import proofs.«01_k».proof.Proof.RunA
public import proofs.«01_k».proof.Proof.RunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

/-! # What the body stores, as lists of named pieces

The generated run of the body gives each buffer's stores as a list of pieces, each payload spelt through the auxiliary
definitions of the run. Here the same lists are spelt with `tile` and the few definitions below; the two spellings are the
same term once unfolded. -/

variable {F : FTy → Type} [FloatOps F]

/-- The greatest magnitude of each row over 448. -/
def ratio (x : Vec F S256x1920 .bf16) : FVec F S256x1 .f32 :=
  mulf (shapeCast S256x1 (multiReduction .maximumf [1] S256 (absf (extf .f32 (shapeCast S256x1920 x shapeCasts_S256x1920_S256x1920) bitsLt_bf16_f32)) 0xFF800000#32 reduces_S256x1920_S256 (.inl rfl) rfl) shapeCasts_S256_S256x1)
    (broadcast S256x1 (Scalar.ofBits .f32 0x3B124925#32))

/-- One step of the search for the exponent field: the field grown by `k` where the power of two it then names is at most `t`. -/
def step (k : BitVec 32) (t : FVec F S256x1 .f32) (b : IVec S256x1 32) : IVec S256x1 32 :=
  select (cmpf .oge t (bitcastToFloat .f32 (shli (addi b (broadcast S256x1 k)) (broadcast S256x1 23#32)))) (addi b (broadcast S256x1 k)) b

/-- The exponent field of the greatest power of two at most `t`. -/
def field (t : FVec F S256x1 .f32) : IVec S256x1 32 :=
  step 1#32 t (step 2#32 t (step 4#32 t (step 8#32 t (step 16#32 t (step 32#32 t (step 64#32 t (step 128#32 t (broadcast S256x1 0#32))))))))

/-- The exponent of the scale. -/
def expo (t : FVec F S256x1 .f32) : IVec S256x1 32 :=
  select (cmpi .eq (field t) (broadcast S256x1 0#32)) (broadcast S256x1 0#32) (subi (field t) (broadcast S256x1 126#32))

/-- The scale: the power of two. -/
def scaleVec (e : IVec S256x1 32) : FVec F S256x1 .f32 :=
  bitcastToFloat .f32 (shli (addi e (broadcast S256x1 127#32)) (broadcast S256x1 23#32))

/-- The codes: the entries over the scale, clipped to ±448. -/
def codesVec (x : Vec F S256x1920 .bf16) (e : IVec S256x1 32) : FVec F S256x1920 .fp8e4m3 :=
  truncf .fp8e4m3 (minimumf (broadcast S256x1920 (Scalar.ofBits .f32 0x43E00000#32)) (maximumf (broadcast S256x1920 (Scalar.ofBits .f32 0xC3E00000#32))
    (mulf (extf .f32 (shapeCast S256x1920 x shapeCasts_S256x1920_S256x1920) bitsLt_bf16_f32)
      (broadcastTo S256x1920 (bitcastToFloat .f32 (shli (subi (broadcast S256x1 127#32) e) (broadcast S256x1 23#32))) broadcasts_S256x1_S256x1920)))) bitsLt_fp8e4m3_f32

/-- The codes as the products read them. -/
def codesB (w : FVec F S256x1920 .fp8e4m3) : FVec F S256x1920 .bf16 :=
  shapeCast S256x1920 (extf .bf16 w bitsLt_fp8e4m3_bf16) shapeCasts_S256x1920_S256x1920

/-- The scale spread over 128 lanes. -/
def scaleL (s : FVec F S256x1 .f32) : FVec F S256x128 .f32 :=
  shapeCast S256x128 (broadcastTo S256x128 (shapeCast S256x1 s shapeCasts_S256x1_S256x1) broadcasts_S256x1_S256x128) shapeCasts_S256x128_S256x128

/-- 128 columns of the result: the gate product's SiLU times the up product. -/
def slabOut (sc : Vec F S256x128 .f32) (xb : Vec F S256x1920 .bf16) (wg wu : Vec F S128x1920 .bf16) : FVec F S256x128 .bf16 :=
  have g : FVec F S256x128 .f32 := mulf (matmul dot_S256x1920_S128x1920_S256x128_1_1_0_0_n_n none xb wg (constant S256x128 .f32 0x00000000#32)) sc
  have u : FVec F S256x128 .f32 := mulf (matmul dot_S256x1920_S128x1920_S256x128_1_1_0_0_n_n none xb wu (constant S256x128 .f32 0x00000000#32)) sc
  truncf .bf16 (mulf (mulf g (logistic g)) u) bitsLt_bf16_f32

/-- The pieces of the result's block, last first. -/
def slabPieces (sc : Vec F S256x128 .f32) (xb : Vec F S256x1920 .bf16) (wg wu : ℕ → Vec F S128x1920 .bf16) : List (View.Piece (Elt F) S256x640 .bf16) :=
  [⟨Rect.unit (s := S256x640) ![0, 512] S256x128.size inb_S256x640_S256x128_0_512, slabOut sc xb (wg 4) (wu 4)⟩,
   ⟨Rect.unit (s := S256x640) ![0, 384] S256x128.size inb_S256x640_S256x128_0_384, slabOut sc xb (wg 3) (wu 3)⟩,
   ⟨Rect.unit (s := S256x640) ![0, 256] S256x128.size inb_S256x640_S256x128_0_256, slabOut sc xb (wg 2) (wu 2)⟩,
   ⟨Rect.unit (s := S256x640) ![0, 128] S256x128.size inb_S256x640_S256x128_0_128, slabOut sc xb (wg 1) (wu 1)⟩,
   ⟨Rect.unit (s := S256x640) ![0, 0] S256x128.size inb_S256x640_S256x128_0_0, slabOut sc xb (wg 0) (wu 0)⟩]

/-! ## The weights -/

theorem inb_tile (n : ℕ) (h : n < 300) : ∀ a : Fin 2, (![32 * (n / 15), 128 * (n % 15)] : Fin 2 → ℕ) a + (S32x128.size : Fin 2 → ℕ) a ≤ (S640x1920.size : Fin 2 → ℕ) a := by
  intro a; fin_cases a
  · show 32 * (n / 15) + 32 ≤ 640; omega
  · show 128 * (n % 15) + 128 ≤ 1920; omega

theorem inb_rows (n : ℕ) (h : n < 300) : ∀ a : Fin 2, (![32 * (n / 15), 0] : Fin 2 → ℕ) a + (S32x60.size : Fin 2 → ℕ) a ≤ (S640x60.size : Fin 2 → ℕ) a := by
  intro a; fin_cases a
  · show 32 * (n / 15) + 32 ≤ 640; omega
  · show 0 + 60 ≤ 60; omega

/-- The `n`-th tile stored. -/
def tilePiece (a : Memref sig .tc .vmem S640x1920 .fp8e4m3) (ha : a.IsWhole) (b : Memref sig .tc .vmem S640x60 .i8) (hb : b.IsWhole)
    (w : Vec F S640x1920 .fp8e4m3) (s : Vec F S640x60 .i8) (n : ℕ) (h : n < 300) : View.Piece (Elt F) S640x1920 .bf16 :=
  ⟨Rect.unit (s := S640x1920) ![32 * (n / 15), 128 * (n % 15)] S32x128.size (inb_tile n h),
    tile (BitVec.ofNat 32 (4 * (n % 15)))
      (View.readAt (Elt F) b.view (Rect.unit (s := S640x60) ![32 * (n / 15), 0] S32x60.size (inb_rows n h)).toLoadRect (hb.unread s))
      (View.readAt (Elt F) a.view (Rect.unit (s := S640x1920) ![32 * (n / 15), 128 * (n % 15)] S32x128.size (inb_tile n h)).toLoadRect (ha.unread w))⟩

/-- The first `n` tiles stored, last first. -/
def tilePieces (a : Memref sig .tc .vmem S640x1920 .fp8e4m3) (ha : a.IsWhole) (b : Memref sig .tc .vmem S640x60 .i8) (hb : b.IsWhole)
    (w : Vec F S640x1920 .fp8e4m3) (s : Vec F S640x60 .i8) : (n : ℕ) → n ≤ 300 → List (View.Piece (Elt F) S640x1920 .bf16)
  | 0, _ => []
  | n + 1, h => tilePiece a ha b hb w s n h :: tilePieces a ha b hb w s n (Nat.le_of_lt h)

/-! ## The first point -/

section
variable (c : Dev nD) (i : grid0.Coords) (arg1 : Memref sig .tc .vmem S256x1920 .bf16) (harg1 : arg1.IsWhole) (arg2 : Memref sig .tc .vmem S640x1920 .fp8e4m3) (harg2 : arg2.IsWhole) (arg3 : Memref sig .tc .vmem S640x60 .i8) (harg3 : arg3.IsWhole) (arg4 : Memref sig .tc .vmem S640x1920 .fp8e4m3) (harg4 : arg4.IsWhole) (arg5 : Memref sig .tc .vmem S640x60 .i8) (harg5 : arg5.IsWhole) (arg6 : Memref sig .tc .vmem S256x640 .bf16) (harg6 : arg6.IsWhole) (arg7 : Memref sig .tc .vmem S256x1920 .fp8e4m3) (harg7 : arg7.IsWhole) (arg8 : Memref sig .tc .vmem S256x1 .f32) (harg8 : arg8.IsWhole) (arg9 : Memref sig .tc .vmem S256x1920 .bf16) (harg9 : arg9.IsWhole) (arg10 : Memref sig .tc .vmem S256x128 .f32) (harg10 : arg10.IsWhole) (arg11 : Memref sig .tc .vmem S640x1920 .bf16) (harg11 : arg11.IsWhole) (arg12 : Memref sig .tc .vmem S640x1920 .bf16) (harg12 : arg12.IsWhole) (x0 : Vec F S256x1920 .bf16) (x1 : Vec F S640x1920 .fp8e4m3) (x2 : Vec F S640x60 .i8) (x3 : Vec F S640x1920 .fp8e4m3) (x4 : Vec F S640x60 .i8)

theorem runA_gate (hc0 : cond0_0 i) : (runA (F := F) c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.2.1 = tilePieces arg2 harg2 arg3 harg3 x1 x2 300 le_rfl := by sl_kernel_rfl
theorem runA_up (hc0 : cond0_0 i) : (runA (F := F) c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.2.2.1 = tilePieces arg4 harg4 arg5 harg5 x3 x4 300 le_rfl := by sl_kernel_rfl

/-- The block of `x` as the body loads it. -/
abbrev xld : Vec F S256x1920 .bf16 := View.readAt (Elt F) arg1.view (Rect.unit (s := S256x1920) ![0, 0] S256x1920.size inb_S256x1920_S256x1920_0_0).toLoadRect (harg1.unread x0)

theorem runA_codes (hc0 : cond0_0 i) : (runA (F := F) c i arg1 harg1 arg2 harg2 arg3 harg3 arg4 harg4 arg5 harg5 arg6 harg6 arg7 harg7 arg8 harg8 arg9 harg9 arg10 harg10 arg11 harg11 arg12 harg12 hc0 x0 x1 x2 x3 x4).2.1 = [⟨(Rect.unit (s := S256x1920) ![0, 0] S256x1920.size inb_S256x1920_S256x1920_0_0), codesVec (xld arg1 harg1 x0) (expo (ratio (xld arg1 harg1 x0)))⟩] := by sl_kernel_rfl
theorem runA_scale (hc0 : cond0_0 i) : (runA (F := F) c i arg1 harg1 arg2 harg2 arg3 harg3 arg4 harg4 arg5 harg5 arg6 harg6 arg7 harg7 arg8 harg8 arg9 harg9 arg10 harg10 arg11 harg11 arg12 harg12 hc0 x0 x1 x2 x3 x4).2.2.1 = [⟨(Rect.unit (s := S256x1) ![0, 0] S256x1.size inb_S256x1_S256x1_0_0), scaleVec (expo (ratio (xld arg1 harg1 x0)))⟩] := by sl_kernel_rfl
theorem runA_xb (hc0 : cond0_0 i) : (runA (F := F) c i arg1 harg1 arg2 harg2 arg3 harg3 arg4 harg4 arg5 harg5 arg6 harg6 arg7 harg7 arg8 harg8 arg9 harg9 arg10 harg10 arg11 harg11 arg12 harg12 hc0 x0 x1 x2 x3 x4).2.2.2.1 = [⟨(Rect.unit (s := S256x1920) ![0, 0] S256x1920.size inb_S256x1920_S256x1920_0_0), codesB (codesVec (xld arg1 harg1 x0) (expo (ratio (xld arg1 harg1 x0))))⟩] := by sl_kernel_rfl
theorem runA_sc (hc0 : cond0_0 i) : (runA (F := F) c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.1 = [⟨(Rect.unit (s := S256x128) ![0, 0] S256x128.size inb_S256x128_S256x128_0_0), scaleL (scaleVec (expo (ratio (xld arg1 harg1 x0))))⟩] := by sl_kernel_rfl

theorem inb_slab (k : ℕ) (h : k < 5) : ∀ a : Fin 2, (![128 * k, 0] : Fin 2 → ℕ) a + (S128x1920.size : Fin 2 → ℕ) a ≤ (S640x1920.size : Fin 2 → ℕ) a := by
  intro a; fin_cases a
  · show 128 * k + 128 ≤ 640; omega
  · show 0 + 1920 ≤ 1920; omega

/-- Rows `128 k …` of a weight, read back of the tiles stored. -/
def slabOf (v : Memref sig .tc .vmem S640x1920 .bf16) (a : Memref sig .tc .vmem S640x1920 .fp8e4m3) (ha : a.IsWhole) (b : Memref sig .tc .vmem S640x60 .i8) (hb : b.IsWhole)
    (w : Vec F S640x1920 .fp8e4m3) (s : Vec F S640x60 .i8) (k : ℕ) : Vec F S128x1920 .bf16 :=
  if h : k < 5 then v.view.readCov (tilePieces a ha b hb w s 300 le_rfl) (Rect.unit (s := S640x1920) ![128 * k, 0] S128x1920.size (inb_slab k h)).toLoadRect else fun _ => Scalar.ofBits .bf16 0#16

theorem runA_y (hc0 : cond0_0 i) : (runA (F := F) c i arg1 harg1 arg2 harg2 arg3 harg3 arg4 harg4 arg5 harg5 arg6 harg6 arg7 harg7 arg8 harg8 arg9 harg9 arg10 harg10 arg11 harg11 arg12 harg12 hc0 x0 x1 x2 x3 x4).1 = slabPieces
    (arg10.view.readCov [⟨(Rect.unit (s := S256x128) ![0, 0] S256x128.size inb_S256x128_S256x128_0_0), scaleL (scaleVec (expo (ratio (xld arg1 harg1 x0))))⟩] (Rect.unit (s := S256x128) ![0, 0] S256x128.size inb_S256x128_S256x128_0_0).toLoadRect)
    (arg9.view.readCov [⟨(Rect.unit (s := S256x1920) ![0, 0] S256x1920.size inb_S256x1920_S256x1920_0_0), codesB (codesVec (xld arg1 harg1 x0) (expo (ratio (xld arg1 harg1 x0))))⟩] (Rect.unit (s := S256x1920) ![0, 0] S256x1920.size inb_S256x1920_S256x1920_0_0).toLoadRect)
    (slabOf arg11 arg2 harg2 arg3 harg3 x1 x2) (slabOf arg12 arg4 harg4 arg5 harg5 x3 x4) := by sl_kernel_rfl

/-! ## Any later point -/

theorem runB_y (hc0 : ¬cond0_0 i) (y6 : Vec F S256x1920 .fp8e4m3) (y7 : Vec F S256x1 .f32) (xs0 : Vec F S256x1920 .bf16) (xs1 : Vec F S256x128 .f32) : (runB (F := F) c i arg1 harg1 arg2 harg2 arg3 harg3 arg4 harg4 arg5 harg5 arg6 harg6 arg7 harg7 arg8 harg8 arg9 harg9 arg10 harg10 arg11 harg11 arg12 harg12 hc0 x0 x1 x2 x3 x4 y6 y7 xs0 xs1).1 = slabPieces
    (View.readAt (Elt F) arg10.view (Rect.unit (s := S256x128) ![0, 0] S256x128.size inb_S256x128_S256x128_0_0).toLoadRect (harg10.unread xs1))
    (View.readAt (Elt F) arg9.view (Rect.unit (s := S256x1920) ![0, 0] S256x1920.size inb_S256x1920_S256x1920_0_0).toLoadRect (harg9.unread xs0))
    (slabOf arg11 arg2 harg2 arg3 harg3 x1 x2) (slabOf arg12 arg4 harg4 arg5 harg5 x3 x4) := by sl_kernel_rfl
end

end Cert.KernelIdeal.Hand

end
-- ==== Proof.Weights.lean ====
/- The weight's scratch as one function of codes and scale bytes, the tiles together, and the block of the first result it gives. -/
module

public import proofs.«01_k».proof.Proof.Lists
public import Idealize.ShloMosaic.Lib.WholeRead
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

/-! # The dequantised weights and a block of the result -/

/-- A weight: the code times the power of two its block's scale byte names. -/
def wAt {N : ℕ} (w : FVec Ideal ⟨2, ![N, 1920]⟩ .fp8e4m3) (s : IVec ⟨2, ![N, 60]⟩ 8) (n : Fin N) (k : Fin 1920) : EReal :=
  (w (ix2 n k) : EReal) * Ideal.ofBits .f32 ((s (ix2 n ⟨k.val / 32, by have := k.isLt; omega⟩)).zeroExtend 32 <<< 23)

/-- An entry of the result, of a row of codes, its scale and the two weights' rows. -/
def yAt (sc : EReal) (x g u : Fin 1920 → EReal) : EReal :=
  (∑ k, x k * g k) * sc * Ideal.logistic ((∑ k, x k * g k) * sc) * ((∑ k, x k * u k) * sc)

section
variable (v : Memref sig .tc .vmem S640x1920 .bf16) (a : Memref sig .tc .vmem S640x1920 .fp8e4m3) (ha : a.IsWhole) (b : Memref sig .tc .vmem S640x60 .i8) (hb : b.IsWhole)
variable (v' : Memref sig .tc .vmem S640x1920 .bf16) (a' : Memref sig .tc .vmem S640x1920 .fp8e4m3) (ha' : a'.IsWhole) (b' : Memref sig .tc .vmem S640x60 .i8) (hb' : b'.IsWhole)
variable (w : Vec Ideal S640x1920 .fp8e4m3) (s : Vec Ideal S640x60 .i8) (w' : Vec Ideal S640x1920 .fp8e4m3) (s' : Vec Ideal S640x60 .i8)

theorem tilePiece_val (n : ℕ) (h : n < 300) (x : S32x128.Idx) :
    (tilePiece (F := Ideal) a ha b hb w s n h).2 x
      = (fun y : S640x1920.Idx => wAt w s (y 0) (y 1)) ((tilePiece (F := Ideal) a ha b hb w s n h).1.emb x) := by
  obtain ⟨r, l, rfl⟩ : ∃ (r : Fin 32) (l : Fin 128), x = ix2 r l := ⟨x 0, x 1, eq_ix2 x⟩
  have hl := l.isLt
  have hr := r.isLt
  show tile (F := Ideal) _ _ _ (ix2 r l) = _
  rw [tile_apply (n % 15) (by omega), ha.readAt_unread, hb.readAt_unread]
  unfold wAt
  refine congrArg₂ (fun p q : EReal => p * q) (congrArg w ?_) (congrArg (fun z : BitVec 8 => Ideal.ofBits .f32 (z.zeroExtend 32 <<< 23)) (congrArg s ?_))
  · funext q; fin_cases q <;> rfl
  · funext q; fin_cases q
    · rfl
    · apply Fin.ext
      show 0 + 1 * (l.val / 32 + 4 * (n % 15)) = (128 * (n % 15) + 1 * l.val) / 32
      omega

theorem tilePieces_val : ∀ (n : ℕ) (h : n ≤ 300), ∀ p ∈ tilePieces (F := Ideal) a ha b hb w s n h, ∀ x : p.1.shape.Idx,
    p.2 x = (fun y : S640x1920.Idx => wAt w s (y 0) (y 1)) (p.1.emb x)
  | 0, _, p, hp, _ => by simp [tilePieces] at hp
  | n + 1, h, p, hp, x => by
    rcases List.mem_cons.mp hp with rfl | hp'
    · exact tilePiece_val a ha b hb w s n h x
    · exact tilePieces_val n (Nat.le_of_lt h) p hp' x

theorem tiles_cover (y : S640x1920.Idx) : ∃ p ∈ tilePieces (F := Ideal) a ha b hb w s 300 le_rfl, y ∈ p.1.set :=
  View.cover_of_tiledL (tilePieces (F := Ideal) a ha b hb w s 300 le_rfl) S32x128.size (by sl_kernel_rfl) y

/-- A slab of the weight, read back, is the weight there. -/
theorem slabOf_apply (k : ℕ) (hk : k < 5) (r : Fin 128) (l : Fin 1920) :
    slabOf (F := Ideal) v a ha b hb w s k (ix2 r l) = wAt w s ⟨128 * k + r.val, by show 128 * k + r.val < 640; have := r.isLt; omega⟩ l := by
  unfold slabOf
  rw [dif_pos hk, View.readCov_eq_canon_ld _ _ _ (tiles_cover a ha b hb w s)]
  refine (View.canon_apply_of_pieces (fun y : S640x1920.Idx => wAt w s (y 0) (y 1)) _ (tilePieces_val a ha b hb w s 300 le_rfl) _ (tiles_cover a ha b hb w s _)).trans ?_
  show wAt w s _ _ = _
  refine congrArg₂ (wAt w s) (Fin.ext ?_) (Fin.ext ?_)
  · show 128 * k + 1 * r.val = 128 * k + r.val; omega
  · show 0 + 1 * l.val = _; omega

theorem slabOut_apply (sc : Vec Ideal S256x128 .f32) (xb : Vec Ideal S256x1920 .bf16) (wg wu : Vec Ideal S128x1920 .bf16) (r : Fin 256) (l : Fin 128) :
    slabOut (F := Ideal) sc xb wg wu (ix2 r l) = yAt (sc (ix2 r l)) (fun k => xb (ix2 r k)) (fun k => wg (ix2 l k)) (fun k => wu (ix2 l k)) := by
  unfold yAt
  pointwise [slabOut]

variable (sc : Vec Ideal S256x128 .f32) (xb : Vec Ideal S256x1920 .bf16) (S : Fin 256 → EReal) (hsc : ∀ r l, sc (ix2 r l) = S r)

include hsc in
theorem slabOut_emb (k : ℕ) (hk : k < 5) (inb : ∀ a : Fin 2, (![0, 128 * k] : Fin 2 → ℕ) a + (S256x128.size : Fin 2 → ℕ) a ≤ (S256x640.size : Fin 2 → ℕ) a) (x : S256x128.Idx) :
    slabOut (F := Ideal) sc xb (slabOf v a ha b hb w s k) (slabOf v' a' ha' b' hb' w' s' k) x
      = (fun y : S256x640.Idx => yAt (S (y 0)) (fun k => xb (ix2 (y 0) k)) (wAt w s (y 1)) (wAt w' s' (y 1))) ((Rect.unit (s := S256x640) ![0, 128 * k] S256x128.size inb).emb x) := by
  obtain ⟨r, l, rfl⟩ : ∃ (r : Fin 256) (l : Fin 128), x = ix2 r l := ⟨x 0, x 1, eq_ix2 x⟩
  rw [slabOut_apply, hsc]
  have e0 : ((Rect.unit (s := S256x640) ![0, 128 * k] S256x128.size inb).emb (ix2 r l)) 0 = r := Fin.ext (by show 0 + 1 * r.val = _; omega)
  have e1 : ((Rect.unit (s := S256x640) ![0, 128 * k] S256x128.size inb).emb (ix2 r l)) 1 = (⟨128 * k + l.val, by show 128 * k + l.val < 640; have := l.isLt; omega⟩ : Fin 640) := Fin.ext (by show 128 * k + 1 * l.val = 128 * k + l.val; omega)
  show _ = yAt (S (((Rect.unit (s := S256x640) ![0, 128 * k] S256x128.size inb).emb (ix2 r l)) 0)) (fun k' => xb (ix2 (((Rect.unit (s := S256x640) ![0, 128 * k] S256x128.size inb).emb (ix2 r l)) 0) k')) (wAt w s (((Rect.unit (s := S256x640) ![0, 128 * k] S256x128.size inb).emb (ix2 r l)) 1)) (wAt w' s' (((Rect.unit (s := S256x640) ![0, 128 * k] S256x128.size inb).emb (ix2 r l)) 1))
  rw [e0, e1]
  exact congrArg₂ (yAt (S r) fun k' => xb (ix2 r k')) (funext fun k' => slabOf_apply v a ha b hb w s k hk l k') (funext fun k' => slabOf_apply v' a' ha' b' hb' w' s' k hk l k')

include hsc in
theorem slabPieces_val (p : View.Piece (Elt Ideal) S256x640 .bf16) (hp : p ∈ slabPieces (F := Ideal) sc xb (slabOf v a ha b hb w s) (slabOf v' a' ha' b' hb' w' s')) (x : p.1.shape.Idx) :
    p.2 x = (fun y : S256x640.Idx => yAt (S (y 0)) (fun k => xb (ix2 (y 0) k)) (wAt w s (y 1)) (wAt w' s' (y 1))) (p.1.emb x) := by
  simp only [slabPieces, List.mem_cons, List.not_mem_nil, or_false] at hp
  rcases hp with rfl | rfl | rfl | rfl | rfl
  · exact slabOut_emb v a ha b hb v' a' ha' b' hb' w s w' s' sc xb S hsc 4 (by omega) inb_S256x640_S256x128_0_512 x
  · exact slabOut_emb v a ha b hb v' a' ha' b' hb' w s w' s' sc xb S hsc 3 (by omega) inb_S256x640_S256x128_0_384 x
  · exact slabOut_emb v a ha b hb v' a' ha' b' hb' w s w' s' sc xb S hsc 2 (by omega) inb_S256x640_S256x128_0_256 x
  · exact slabOut_emb v a ha b hb v' a' ha' b' hb' w s w' s' sc xb S hsc 1 (by omega) inb_S256x640_S256x128_0_128 x
  · exact slabOut_emb v a ha b hb v' a' ha' b' hb' w s w' s' sc xb S hsc 0 (by omega) inb_S256x640_S256x128_0_0 x

theorem slabs_cover (wg wu : ℕ → Vec Ideal S128x1920 .bf16) (y : S256x640.Idx) : ∃ p ∈ slabPieces (F := Ideal) sc xb wg wu, y ∈ p.1.set :=
  View.cover_of_tiledL (slabPieces (F := Ideal) sc xb wg wu) S256x128.size (by sl_kernel_rfl) y

include hsc in
/-- A block of the result. -/
theorem slabs_canon : View.canon (slabPieces (F := Ideal) sc xb (slabOf v a ha b hb w s) (slabOf v' a' ha' b' hb' w' s'))
    = fun y : S256x640.Idx => yAt (S (y 0)) (fun k => xb (ix2 (y 0) k)) (wAt w s (y 1)) (wAt w' s' (y 1)) := by
  funext y
  exact View.canon_apply_of_pieces (fun y : S256x640.Idx => yAt (S (y 0)) (fun k => xb (ix2 (y 0) k)) (wAt w s (y 1)) (wAt w' s' (y 1))) _ (slabPieces_val v a ha b hb v' a' ha' b' hb' w s w' s' sc xb S hsc) y (slabs_cover sc xb _ _ y)

end

end Cert.KernelIdeal.Hand

end
-- ==== Proof.Values.lean ====
/- The three results of the idealized kernel after its run, entry by entry. -/
module

public import proofs.«01_k».proof.Proof.Pipe
public import proofs.«01_k».proof.Proof.Weights
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

/-! # What the kernel's three result arrays hold -/

variable (m : (ℓ : Loc nD τ sig) → Buf (Elt Ideal) ℓ)

/-- The activations. -/
abbrev XK (c : Dev nD) : FVec Ideal S256x1920 .bf16 := shapeCast S256x1920 (m ((c : Thread nD τ).loc main_arg0)) shapeCasts_S1x256x1920_S256x1920

theorem idx : ∀ t : Fin cfg0.N, win0_0.index t = ![0, 0] ∧ win0_1.index t = ![t.val, 0] ∧ win0_2.index t = ![t.val, 0] ∧ win0_3.index t = ![t.val, 0]
    ∧ win0_4.index t = ![t.val, 0] ∧ win0_5.index t = ![0, t.val] ∧ win0_6.index t = ![0, 0] ∧ win0_7.index t = ![0, 0] :=
  (by decide +kernel : ∀ t : Fin grid0.N, _)

theorem off0 : (![0, 0] : Fin 2 → ℕ) = fun _ => 0 := by funext a; fin_cases a <;> rfl

theorem blk0 (c : Dev nD) (t : Fin cfg0.N) : iblk m c 0 t = XK m c := by
  funext y
  blk_simp [iblk]
  entry_read
  refine congrArg (XK m c) ?_
  blk_ext [idx t]

theorem blk1 (c : Dev nD) (t : Fin cfg0.N) (n : Fin 640) (k : Fin 1920) : iblk m c 1 t (ix2 n k) = m ((c : Thread nD τ).loc main_arg1) (ix2 (⟨t.val * 640 + n.val, by have := lt_of_lt_of_eq t.isLt N_0; have := n.isLt; omega⟩ : Fin 23680) k) := by
  blk_ext [iblk, V, idx t]
theorem blk2 (c : Dev nD) (t : Fin cfg0.N) (n : Fin 640) (k : Fin 60) : iblk m c 2 t (ix2 n k) = m ((c : Thread nD τ).loc main_arg2) (ix2 (⟨t.val * 640 + n.val, by have := lt_of_lt_of_eq t.isLt N_0; have := n.isLt; omega⟩ : Fin 23680) k) := by
  blk_ext [iblk, V, idx t]
theorem blk3 (c : Dev nD) (t : Fin cfg0.N) (n : Fin 640) (k : Fin 1920) : iblk m c 3 t (ix2 n k) = m ((c : Thread nD τ).loc main_arg3) (ix2 (⟨t.val * 640 + n.val, by have := lt_of_lt_of_eq t.isLt N_0; have := n.isLt; omega⟩ : Fin 23680) k) := by
  blk_ext [iblk, V, idx t]
theorem blk4 (c : Dev nD) (t : Fin cfg0.N) (n : Fin 640) (k : Fin 60) : iblk m c 4 t (ix2 n k) = m ((c : Thread nD τ).loc main_arg4) (ix2 (⟨t.val * 640 + n.val, by have := lt_of_lt_of_eq t.isLt N_0; have := n.isLt; omega⟩ : Fin 23680) k) := by
  blk_ext [iblk, V, idx t]

theorem wAt_blk (c : Dev nD) (t : Fin cfg0.N) (n : Fin 640) :
    wAt (N := 640) (iblk m c 1 t) (iblk m c 2 t) n
      = wAt (N := 23680) (m ((c : Thread nD τ).loc main_arg1)) (m ((c : Thread nD τ).loc main_arg2)) ⟨t.val * 640 + n.val, by have := lt_of_lt_of_eq t.isLt N_0; have := n.isLt; omega⟩ := by
  funext k
  unfold wAt
  rw [blk1, blk2]
theorem wAt_blk' (c : Dev nD) (t : Fin cfg0.N) (n : Fin 640) :
    wAt (N := 640) (iblk m c 3 t) (iblk m c 4 t) n
      = wAt (N := 23680) (m ((c : Thread nD τ).loc main_arg3)) (m ((c : Thread nD τ).loc main_arg4)) ⟨t.val * 640 + n.val, by have := lt_of_lt_of_eq t.isLt N_0; have := n.isLt; omega⟩ := by
  funext k
  unfold wAt
  rw [blk3, blk4]

theorem xld_eq (arg1 : Memref sig .tc .vmem S256x1920 .bf16) (harg1 : arg1.IsWhole) (x0 : Vec Ideal S256x1920 .bf16) : xld (F := Ideal) arg1 harg1 x0 = x0 := by
  funext y
  refine (Memref.IsWhole.readAt_unread harg1 x0 (Rect.unit (s := S256x1920) ![0, 0] S256x1920.size inb_S256x1920_S256x1920_0_0).toLoadRect y).trans (congrArg x0 ?_)
  funext a
  apply Fin.ext
  fin_cases a
  · show 0 + 1 * (y 0).val = (y 0).val; omega
  · show 0 + 1 * (y 1).val = (y 1).val; omega

/-- The codes and the scale of the activations. -/
def codesK (X : FVec Ideal S256x1920 .bf16) : FVec Ideal S256x1920 .fp8e4m3 := codesVec X (expo (ratio (F := Ideal) X))
def scaleK (X : FVec Ideal S256x1920 .bf16) : FVec Ideal S256x1 .f32 := scaleVec (expo (ratio (F := Ideal) X))

theorem codesOf_eq (c : Dev nD) : codesOf m c = codesK (XK m c) := by
  unfold codesOf rA codesK
  rw [runA_codes, View.canon_unit_zero off0, xld_eq, blk0]
theorem scaleOf_eq (c : Dev nD) : scaleOf m c = scaleK (XK m c) := by
  unfold scaleOf rA scaleK
  rw [runA_scale, View.canon_unit_zero off0, xld_eq, blk0]
theorem xbOf_eq (c : Dev nD) : xbOf m c = codesB (codesK (XK m c)) := by
  unfold xbOf rA codesK
  rw [runA_xb, View.canon_unit_zero off0, xld_eq, blk0]
theorem scOf_eq (c : Dev nD) : scOf m c = scaleL (scaleK (XK m c)) := by
  unfold scOf rA scaleK
  rw [runA_sc, View.canon_unit_zero off0, xld_eq, blk0]

theorem scaleL_apply (s : FVec Ideal S256x1 .f32) (r : Fin 256) (l : Fin 128) : scaleL (F := Ideal) s (ix2 r l) = s (ix2 r 0) := by
  pointwise [scaleL]
theorem codesB_apply (w : FVec Ideal S256x1920 .fp8e4m3) (r : Fin 256) (k : Fin 1920) : codesB (F := Ideal) w (ix2 r k) = w (ix2 r k) := by
  pointwise [codesB]

/-- The first result's block at a point, of the blocks there. -/
def yblk (X : FVec Ideal S256x1920 .bf16) (w : Vec Ideal S640x1920 .fp8e4m3) (s : Vec Ideal S640x60 .i8) (w' : Vec Ideal S640x1920 .fp8e4m3) (s' : Vec Ideal S640x60 .i8) : S256x640.Idx → EReal :=
  fun y => yAt (scaleK X (ix2 (y 0) 0)) (fun k => codesK X (ix2 (y 0) k)) (wAt w s (y 1)) (wAt w' s' (y 1))

theorem readAt_sc (a : Memref sig .tc .vmem S256x128 .f32) (ha : a.IsWhole) (x0 : Vec Ideal S256x128 .f32) :
    View.readAt (Elt Ideal) a.view (Rect.unit (s := S256x128) ![0, 0] S256x128.size inb_S256x128_S256x128_0_0).toLoadRect (ha.unread x0) = x0 := by
  funext y
  refine (Memref.IsWhole.readAt_unread ha x0 (Rect.unit (s := S256x128) ![0, 0] S256x128.size inb_S256x128_S256x128_0_0).toLoadRect y).trans (congrArg x0 ?_)
  funext a
  apply Fin.ext
  fin_cases a
  · show 0 + 1 * (y 0).val = (y 0).val; omega
  · show 0 + 1 * (y 1).val = (y 1).val; omega

section
variable (c : Dev nD) (i : grid0.Coords) (arg1 : Memref sig .tc .vmem S256x1920 .bf16) (harg1 : arg1.IsWhole) (arg2 : Memref sig .tc .vmem S640x1920 .fp8e4m3) (harg2 : arg2.IsWhole) (arg3 : Memref sig .tc .vmem S640x60 .i8) (harg3 : arg3.IsWhole) (arg4 : Memref sig .tc .vmem S640x1920 .fp8e4m3) (harg4 : arg4.IsWhole) (arg5 : Memref sig .tc .vmem S640x60 .i8) (harg5 : arg5.IsWhole) (arg6 : Memref sig .tc .vmem S256x640 .bf16) (harg6 : arg6.IsWhole) (arg7 : Memref sig .tc .vmem S256x1920 .fp8e4m3) (harg7 : arg7.IsWhole) (arg8 : Memref sig .tc .vmem S256x1 .f32) (harg8 : arg8.IsWhole) (arg9 : Memref sig .tc .vmem S256x1920 .bf16) (harg9 : arg9.IsWhole) (arg10 : Memref sig .tc .vmem S256x128 .f32) (harg10 : arg10.IsWhole) (arg11 : Memref sig .tc .vmem S640x1920 .bf16) (harg11 : arg11.IsWhole) (arg12 : Memref sig .tc .vmem S640x1920 .bf16) (harg12 : arg12.IsWhole) (x0 : Vec Ideal S256x1920 .bf16) (x1 : Vec Ideal S640x1920 .fp8e4m3) (x2 : Vec Ideal S640x60 .i8) (x3 : Vec Ideal S640x1920 .fp8e4m3) (x4 : Vec Ideal S640x60 .i8)

theorem yA (hc0 : cond0_0 i) : View.canon (runA (F := Ideal) c i arg1 harg1 arg2 harg2 arg3 harg3 arg4 harg4 arg5 harg5 arg6 harg6 arg7 harg7 arg8 harg8 arg9 harg9 arg10 harg10 arg11 harg11 arg12 harg12 hc0 x0 x1 x2 x3 x4).1 = yblk x0 x1 x2 x3 x4 := by
  rw [runA_y, View.readCov_unit_zero _ off0, View.readCov_unit_zero _ off0, xld_eq]
  refine (slabs_canon arg11 arg2 harg2 arg3 harg3 arg12 arg4 harg4 arg5 harg5 x1 x2 x3 x4 (scaleL (scaleK x0)) (codesB (codesK x0)) (fun r' : Fin 256 => scaleK x0 (ix2 r' 0)) (fun r l => scaleL_apply _ r l)).trans ?_
  funext y
  exact congrArg (fun f => yAt (scaleK x0 (ix2 (y 0) 0)) f (wAt x1 x2 (y 1)) (wAt x3 x4 (y 1))) (funext fun k => codesB_apply (codesK x0) (y 0) k)

theorem yB (hc0 : ¬cond0_0 i) (y6 : Vec Ideal S256x1920 .fp8e4m3) (y7 : Vec Ideal S256x1 .f32) (X : FVec Ideal S256x1920 .bf16) :
    View.canon (runB (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 y6 y7 (codesB (codesK X)) (scaleL (scaleK X))).1 = yblk X x1 x2 x3 x4 := by
  rw [runB_y, readAt_sc]
  rw [show View.readAt (Elt Ideal) arg9.view (Rect.unit (s := S256x1920) ![0, 0] S256x1920.size inb_S256x1920_S256x1920_0_0).toLoadRect (harg9.unread (codesB (codesK X))) = codesB (codesK X) from xld_eq arg9 harg9 _]
  refine (slabs_canon arg11 arg2 harg2 arg3 harg3 arg12 arg4 harg4 arg5 harg5 x1 x2 x3 x4 (scaleL (scaleK X)) (codesB (codesK X)) (fun r' : Fin 256 => scaleK X (ix2 r' 0)) (fun r l => scaleL_apply _ r l)).trans ?_
  funext y
  exact congrArg (fun f => yAt (scaleK X (ix2 (y 0) 0)) f (wAt x1 x2 (y 1)) (wAt x3 x4 (y 1))) (funext fun k => codesB_apply (codesK X) (y 0) k)
end

theorem yOf_eq (c : Dev nD) (t : Fin cfg0.N) : yOf m c t = yblk (XK m c) (iblk m c 1 t) (iblk m c 2 t) (iblk m c 3 t) (iblk m c 4 t) := by
  by_cases h : t.val % 37 = 0
  · rw [yOf_A m c t h]
    unfold rA
    rw [yA, blk0]
  · rw [yOf_B m c t h, xbOf_eq, scOf_eq]
    unfold rB
    rw [yB]

/-- The first result, of the arguments. -/
def yK (X : FVec Ideal S256x1920 .bf16) (w : FVec Ideal S23680x1920 .fp8e4m3) (s : IVec S23680x60 8) (w' : FVec Ideal S23680x1920 .fp8e4m3) (s' : IVec S23680x60 8) : FVec Ideal S256x23680 .bf16 :=
  fun y => yAt (scaleK X (ix2 (y 0) 0)) (fun k => codesK X (ix2 (y 0) k)) (wAt (N := 23680) w s (y 1)) (wAt (N := 23680) w' s' (y 1))

theorem final6 (c : Dev nD) : (dats m 0 c).arrAt 6 (cfgs 0).N = codesK (XK m c) := by
  refine (dats m 0 c).arrAt_eq_of_covers 6 _ (by decide +kernel) fun t _ y => ?_
  blk_simp
  rw [after0_6, codesOf_eq]
  refine congrArg (codesK (XK m c)) ?_
  blk_ext [idx t]

theorem final7 (c : Dev nD) : (dats m 0 c).arrAt 7 (cfgs 0).N = scaleK (XK m c) := by
  refine (dats m 0 c).arrAt_eq_of_covers 7 _ (by decide +kernel) fun t _ y => ?_
  blk_simp
  rw [after0_7, scaleOf_eq]
  refine congrArg (scaleK (XK m c)) ?_
  blk_ext [idx t]

theorem final5 (c : Dev nD) : (dats m 0 c).arrAt 5 (cfgs 0).N
    = yK (XK m c) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, yOf_eq]
  obtain ⟨r, n, rfl⟩ : ∃ (r : Fin 256) (n : Fin 640), y = ix2 r n := ⟨y 0, y 1, eq_ix2 y⟩
  have e : ((cfg0.win 5).blk t).view.emb (ix2 r n) = ix2 r (⟨t.val * 640 + n.val, by have := lt_of_lt_of_eq t.isLt N_0; have := n.isLt; omega⟩ : Fin 23680) := by
    blk_ext [idx t]
  rw [e]
  show yAt (scaleK (XK m c) (ix2 r 0)) (fun k => codesK (XK m c) (ix2 r k)) (wAt (iblk m c 1 t) (iblk m c 2 t) n) (wAt (iblk m c 3 t) (iblk m c 4 t) n) = _
  rw [wAt_blk, wAt_blk']
  rfl

end Cert.KernelIdeal.Hand

end
-- ==== Proof.Quant.lean ====
/- Powers of two by exponent field and by `exp2`: the exponent of a row's scale found bit by bit is the floor of its base-two
   logarithm plus one, the scale and its inverse are the powers of two they stand for, and so is the number a scale byte names. -/
module

public import Idealize.ShloMosaic.Lib.Pointwise

@[expose] public section

set_option maxRecDepth 16384

noncomputable section

namespace Cert.Quant

open Idealize.ShloMosaic

/-! # Powers of two by their exponent field, and by `exp2`

The scale of a row is a power of two. One program finds its exponent field by a search and reads the shifted field as a
float; the other takes the floor of a logarithm and `exp2`. Here the two are the same number. -/

/-- The number whose exponent field is `b`, its other bits zero (and `⊤` from 255 on). -/
def g (b : ℕ) : EReal := if b = 0 then 0 else if b < 255 then (((2 : ℝ) ^ ((b : ℤ) - 127) : ℝ) : EReal) else ⊤

theorem g_zero : g 0 = 0 := by simp [g]

theorem g_mid {b : ℕ} (h0 : b ≠ 0) (h1 : b < 255) : g b = (((2 : ℝ) ^ ((b : ℤ) - 127) : ℝ) : EReal) := by simp [g, h0, h1]

theorem g_top {b : ℕ} (h : 255 ≤ b) : g b = ⊤ := by
  have h0 : b ≠ 0 := by omega
  have h1 : ¬ b < 255 := by omega
  simp [g, h0, h1]

theorem g_mono {a b : ℕ} (h : a ≤ b) : g a ≤ g b := by
  by_cases hb : 255 ≤ b
  · rw [g_top hb]; exact le_top
  by_cases ha : a = 0
  · subst ha
    rw [g_zero]
    by_cases hb0 : b = 0
    · subst hb0; rw [g_zero]
    · rw [g_mid hb0 (by omega)]; exact_mod_cast (by positivity)
  · rw [g_mid ha (by omega), g_mid (by omega) (by omega)]
    rw [EReal.coe_le_coe_iff]
    exact zpow_le_zpow_right₀ (by norm_num : (1 : ℝ) ≤ 2) (by omega)

theorem field_bits : ∀ b : Fin 256, ((BitVec.ofNat 32 b.val <<< 23).extractLsb' 31 1 == 1#1) = false ∧ ((BitVec.ofNat 32 b.val <<< 23).extractLsb' 23 8).toNat = b.val ∧ ((BitVec.ofNat 32 b.val <<< 23).extractLsb' 0 23).toNat = 0 := by
  decide +kernel

/-- What a pattern denotes, by its sign (`1` or `-1`), exponent field and fraction. -/
theorem ieee_of (m : ℕ) {w : ℕ} (b : BitVec w) (neg : Bool) (ex fr : ℕ) (h1 : (b.extractLsb' (8 + m) 1 == 1#1) = neg)
    (h2 : (b.extractLsb' m 8).toNat = ex) (h3 : (b.extractLsb' 0 m).toNat = fr) (hex : ex ≠ 255) (hex0 : ex ≠ 0) :
    Ideal.ieee 8 m b = (((if neg then -1 else 1) * ((2 ^ m + fr : ℕ) : ℝ) * (2 : ℝ) ^ ((ex : ℤ) - (2 ^ (8 - 1) - 1 : ℤ) - m) : ℝ) : EReal) := by
  subst h1 h2 h3
  unfold Ideal.ieee
  exact (if_neg hex).trans (if_neg hex0)

theorem ieee_top (b : BitVec 32) (h1 : (b.extractLsb' 31 1 == 1#1) = false) (h2 : (b.extractLsb' 23 8).toNat = 255)
    (h3 : (b.extractLsb' 0 23).toNat = 0) : Ideal.ieee 8 23 b = ⊤ := by
  unfold Ideal.ieee
  refine (if_pos h2).trans ((if_pos h3).trans (if_neg ?_))
  show ¬ ((b.extractLsb' 31 1 == 1#1) = true)
  rw [h1]; exact Bool.false_ne_true

theorem ieee_bot (b : BitVec 32) (h1 : (b.extractLsb' 31 1 == 1#1) = true) (h2 : (b.extractLsb' 23 8).toNat = 255)
    (h3 : (b.extractLsb' 0 23).toNat = 0) : Ideal.ieee 8 23 b = ⊥ := by
  unfold Ideal.ieee
  exact (if_pos h2).trans ((if_pos h3).trans (if_pos h1))

theorem ieee_zero (b : BitVec 32) (h2 : (b.extractLsb' 23 8).toNat = 0) (h3 : (b.extractLsb' 0 23).toNat = 0) : Ideal.ieee 8 23 b = 0 := by
  unfold Ideal.ieee
  have h255 : ¬ ((b.extractLsb' 23 8).toNat = 2 ^ 8 - 1) := by rw [h2]; decide
  refine (if_neg h255).trans ((if_pos h2).trans ?_)
  rw [h3]; simp

theorem ofBits_field (b : ℕ) (h : b < 256) : Ideal.ofBits .f32 (BitVec.ofNat 32 b <<< 23) = g b := by
  obtain ⟨h1, h2, h3⟩ := field_bits ⟨b, h⟩
  by_cases hb : b = 255
  · subst hb; rw [g_top le_rfl]; exact ieee_top (BitVec.ofNat 32 255 <<< 23) h1 h2 h3
  by_cases h0 : b = 0
  · subst h0; rw [g_zero]; exact ieee_zero (BitVec.ofNat 32 0 <<< 23) h2 h3
  · rw [g_mid h0 (by omega)]
    refine (ieee_of 23 (BitVec.ofNat 32 b <<< 23) false b 0 h1 h2 h3 hb h0).trans ?_
    have hp : ((2 ^ 23 + 0 : ℕ) : ℝ) = (2 : ℝ) ^ (23 : ℤ) := by norm_num
    have hz : (23 : ℤ) + ((b : ℤ) - (2 ^ (8 - 1) - 1 : ℤ) - (23 : ℕ)) = (b : ℤ) - 127 := by norm_num
    rw [hp, if_neg Bool.false_ne_true, one_mul, ← zpow_add₀ (by norm_num : (2 : ℝ) ≠ 0), hz]

/-! ## The search -/

def stepS (k : BitVec 32) (t : EReal) (b : BitVec 32) : BitVec 32 :=
  if Ideal.ofBits .f32 (IntOp.shli .vector (IntOp.addi b k) 23#32) ≤ t then IntOp.addi b k else b

def fieldS (t : EReal) : BitVec 32 :=
  stepS 1#32 t (stepS 2#32 t (stepS 4#32 t (stepS 8#32 t (stepS 16#32 t (stepS 32#32 t (stepS 64#32 t (stepS 128#32 t 0#32)))))))

def Good (t : EReal) (K : ℕ) (b : BitVec 32) : Prop := ∃ B : ℕ, B + K ≤ 256 ∧ b = BitVec.ofNat 32 B ∧ g B ≤ t ∧ t < g (B + K)

theorem good_step (t : EReal) (K : ℕ) (hK : 0 < K) (b : BitVec 32) (h : Good t (2 * K) b) : Good t K (stepS (BitVec.ofNat 32 K) t b) := by
  obtain ⟨B, h1, rfl, h3, h4⟩ := h
  have e : IntOp.addi (BitVec.ofNat 32 B) (BitVec.ofNat 32 K) = BitVec.ofNat 32 (B + K) := (BitVec.ofNat_add B K).symm
  have e2 : Ideal.ofBits .f32 (IntOp.shli .vector (BitVec.ofNat 32 (B + K)) 23#32) = g (B + K) := ofBits_field (B + K) (by omega)
  unfold stepS
  rw [e, e2]
  by_cases hc : g (B + K) ≤ t
  · rw [if_pos hc]; exact ⟨B + K, by omega, rfl, hc, by rwa [show B + K + K = B + 2 * K by omega]⟩
  · rw [if_neg hc]; exact ⟨B, by omega, rfl, h3, not_le.mp hc⟩

theorem fieldS_spec {t : EReal} (h0 : 0 ≤ t) (h1 : t < ⊤) : Good t 1 (fieldS t) := by
  have i : Good t (2 * 128) 0#32 := ⟨0, by omega, rfl, by rwa [g_zero], by rwa [g_top (by omega)]⟩
  exact good_step t 1 (by omega) _ (good_step t 2 (by omega) _ (good_step t 4 (by omega) _ (good_step t 8 (by omega) _
    (good_step t 16 (by omega) _ (good_step t 32 (by omega) _ (good_step t 64 (by omega) _ (good_step t 128 (by omega) _ i)))))))

def expoS (t : EReal) : BitVec 32 :=
  Scalar.select (IntOp.cmpi .eq (fieldS t) 0#32) 0#32 (IntOp.subi (fieldS t) 126#32)

/-! ## The same by logarithm and `exp2` -/

/-- Two to the `e`, out of range infinite or zero. -/
def pw (e : EReal) : EReal :=
  if Ideal.ofBits .f32 0x42FE0000#32 < e then Ideal.ofBits .f32 0x7F800000#32
  else if e < Ideal.ofBits .f32 0xC2FC0000#32 then 0 else Ideal.exp2 e

theorem ofBits_127 : Ideal.ofBits .f32 0x42fe0000#32 = ((127 : ℝ) : EReal) := by
  refine (ieee_of 23 0x42fe0000#32 false 133 8257536 (by decide +kernel) (by decide +kernel) (by decide +kernel) (by decide) (by decide)).trans ?_
  norm_num
theorem ofBits_m126 : Ideal.ofBits .f32 0xc2fc0000#32 = ((-126 : ℝ) : EReal) := by
  refine (ieee_of 23 0xc2fc0000#32 true 133 8126464 (by decide +kernel) (by decide +kernel) (by decide +kernel) (by decide) (by decide)).trans ?_
  norm_num
theorem ofBits_inf : Ideal.ofBits .f32 0x7F800000#32 = ⊤ := ieee_top 0x7F800000#32 (by decide +kernel) (by decide +kernel) (by decide +kernel)
theorem ofBits_two : Ideal.ofBits .f32 0x40000000#32 = ((2 : ℝ) : EReal) := by
  refine (ieee_of 23 0x40000000#32 false 128 0 (by decide +kernel) (by decide +kernel) (by decide +kernel) (by decide) (by decide)).trans ?_
  norm_num
theorem ofBits_tiny : Ideal.ofBits .f32 0x00800000#32 = g 1 := ofBits_field 1 (by omega)

/-- The field form and the `exp2` form of a power of two. -/
theorem g_eq_pw (b : ℕ) (z : ℤ) (h : b < 256) (hz : z = (b : ℤ) - 127) : g b = pw ((z : ℝ) : EReal) := by
  subst hz
  unfold pw
  rw [ofBits_127, ofBits_m126, ofBits_inf]
  by_cases hb : b = 255
  · subst hb
    rw [g_top le_rfl, if_pos]
    rw [EReal.coe_lt_coe_iff]; norm_num
  have n1 : ¬ ((127 : ℝ) : EReal) < (((((b : ℤ) - 127 : ℤ) : ℝ)) : EReal) := by
    rw [EReal.coe_lt_coe_iff, not_lt]
    have : (b : ℤ) - 127 ≤ 127 := by omega
    exact_mod_cast this
  rw [if_neg n1]
  by_cases h0 : b = 0
  · subst h0
    rw [g_zero, if_pos]
    rw [EReal.coe_lt_coe_iff]; norm_num
  have n2 : ¬ (((((b : ℤ) - 127 : ℤ) : ℝ)) : EReal) < ((-126 : ℝ) : EReal) := by
    rw [EReal.coe_lt_coe_iff, not_lt]
    have : -126 ≤ (b : ℤ) - 127 := by omega
    exact_mod_cast this
  rw [if_neg n2, g_mid h0 (by omega), Ideal.exp2_coe]
  congr 1
  exact (Real.rpow_intCast 2 _).symm

/-- The exponent of the scale by the floor of the base-two logarithm. -/
def exR (t : EReal) : EReal :=
  if t < Ideal.ofBits .f32 0x00800000#32 then 0
  else Ideal.liftRound Int.floor (Ideal.div (Ideal.log t) (Ideal.log (Ideal.ofBits .f32 0x40000000#32))) + 1

theorem floor_log {r : ℝ} {z : ℤ} (h1 : (2 : ℝ) ^ z ≤ r) (h2 : r < (2 : ℝ) ^ (z + 1)) : ⌊Real.log r * (1 / Real.log 2)⌋ = z := by
  have hp : 0 < r := lt_of_lt_of_le (by positivity) h1
  have l2 : 0 < Real.log 2 := Real.log_pos (by norm_num)
  have a1 := Real.log_le_log (by positivity) h1
  have a2 := Real.log_lt_log hp h2
  rw [Real.log_zpow] at a1 a2
  rw [Int.floor_eq_iff, mul_one_div]
  constructor
  · rw [le_div_iff₀ l2]; exact a1
  · rw [div_lt_iff₀ l2]; push_cast at a2; exact a2

/-- The field, the exponent by bits and the exponent by logarithm, for a `t` whose scale is a float. -/
theorem exR_spec {t : EReal} (h0 : 0 ≤ t) (h1 : t < g 254) :
    ∃ B : ℕ, B ≤ 253 ∧ fieldS t = BitVec.ofNat 32 B ∧ exR t = (((if B = 0 then 0 else (B : ℤ) - 126 : ℤ) : ℝ) : EReal) := by
  obtain ⟨B, b1, b2, b3, b4⟩ := fieldS_spec h0 (lt_of_lt_of_le h1 le_top)
  have hB : B ≤ 253 := by
    by_contra hc
    exact absurd (lt_of_lt_of_le h1 (g_mono (show 254 ≤ B by omega))) (not_lt.mpr b3)
  refine ⟨B, hB, b2, ?_⟩
  unfold exR
  rw [ofBits_tiny]
  by_cases hB0 : B = 0
  · subst hB0
    rw [if_pos b4]; simp
  · have hn : ¬ t < g 1 := not_lt.mpr (le_trans (g_mono (by omega)) b3)
    rw [if_neg hn, if_neg hB0, ofBits_two]
    rw [g_mid hB0 (by omega)] at b3
    rw [g_mid (by omega) (by omega)] at b4
    induction t with
    | bot => simp at h0
    | top => simp at b4
    | coe r =>
      rw [EReal.coe_le_coe_iff] at b3
      rw [EReal.coe_lt_coe_iff] at b4
      have hp : 0 < r := lt_of_lt_of_le (by positivity) b3
      rw [Ideal.log_coe, if_neg (not_le.mpr hp), Ideal.log_coe, if_neg (by norm_num), Ideal.div_coe (Real.log_pos (by norm_num)).ne',
        ← EReal.coe_mul]
      show (((⌊Real.log r * (1 / Real.log 2)⌋ : ℤ) : ℝ) : EReal) + _ = _
      rw [floor_log b3 (by rwa [show (B : ℤ) - 127 + 1 = ((B + 1 : ℕ) : ℤ) - 127 by push_cast; omega]), show (1 : EReal) = ((1 : ℝ) : EReal) from rfl, ← EReal.coe_add]
      congr 1
      push_cast
      ring

theorem expoS_eq {t : EReal} {B : ℕ} (h : fieldS t = BitVec.ofNat 32 B) (hB : B ≤ 253) :
    expoS t = if B = 0 then 0#32 else BitVec.ofNat 32 B - 126#32 := by
  unfold expoS
  rw [h]
  by_cases h0 : B = 0
  · subst h0; rfl
  · rw [if_neg h0]
    have : ¬ (BitVec.ofNat 32 B = 0#32) := by
      intro e; have := congrArg BitVec.toNat e; simp at this; omega
    have hc : IntOp.cmpi .eq (BitVec.ofNat 32 B) 0#32 = 0#1 := by
      show BitVec.ofBool (BitVec.ofNat 32 B == 0#32) = 0#1
      rw [beq_eq_false_iff_ne.mpr this]; rfl
    rw [hc]; rfl

/-- The scale. -/
theorem scale_eq {t : EReal} (h0 : 0 ≤ t) (h1 : t < g 254) :
    Ideal.ofBits .f32 (IntOp.shli .vector (IntOp.addi (expoS t) 127#32) 23#32) = pw (exR t) := by
  obtain ⟨B, hB, hf, hx⟩ := exR_spec h0 h1
  rw [hx, expoS_eq hf hB]
  by_cases hB0 : B = 0
  · rw [if_pos hB0, if_pos hB0]
    exact (ofBits_field 127 (by omega)).trans (g_eq_pw 127 0 (by omega) (by omega))
  · rw [if_neg hB0, if_neg hB0]
    have e : IntOp.addi (BitVec.ofNat 32 B - 126#32) 127#32 = BitVec.ofNat 32 (B + 1) := by
      show BitVec.ofNat 32 B - 126#32 + 127#32 = _
      apply BitVec.eq_of_toNat_eq; simp; omega
    rw [e]
    exact (ofBits_field (B + 1) (by omega)).trans (g_eq_pw (B + 1) _ (by omega) (by push_cast; omega))

/-- Its inverse. -/
theorem inv_eq {t : EReal} (h0 : 0 ≤ t) (h1 : t < g 254) :
    Ideal.ofBits .f32 (IntOp.shli .vector (IntOp.subi 127#32 (expoS t)) 23#32) = pw (0 - exR t) := by
  obtain ⟨B, hB, hf, hx⟩ := exR_spec h0 h1
  have hneg (z : ℤ) : (0 : EReal) - ((z : ℝ) : EReal) = (((-z : ℤ) : ℝ) : EReal) := by
    rw [zero_sub, ← EReal.coe_neg]; push_cast; rfl
  rw [hx, expoS_eq hf hB, hneg]
  by_cases hB0 : B = 0
  · rw [if_pos hB0, if_pos hB0]
    exact (ofBits_field 127 (by omega)).trans (g_eq_pw 127 (-0) (by omega) (by omega))
  · rw [if_neg hB0, if_neg hB0]
    have e : IntOp.subi 127#32 (BitVec.ofNat 32 B - 126#32) = BitVec.ofNat 32 (253 - B) := by
      show 127#32 - (BitVec.ofNat 32 B - 126#32) = _
      apply BitVec.eq_of_toNat_eq; simp; omega
    rw [e]
    exact (ofBits_field (253 - B) (by omega)).trans (g_eq_pw (253 - B) _ (by omega) (by omega))

/-- A scale byte. -/
theorem byte_eq (s : BitVec 8) :
    Ideal.ofBits .f32 (s.zeroExtend 32 <<< 23) = pw (FloatOps.sitofp .f32 (IntOp.subi (BitVec.setWidth 32 s) 127#32) : Ideal .f32) := by
  have e : s.zeroExtend 32 = BitVec.ofNat 32 s.toNat := by
    apply BitVec.eq_of_toNat_eq; simp
  have hs : s.toNat < 256 := s.isLt
  rw [e, ofBits_field _ hs]
  show _ = pw ((((IntOp.subi (BitVec.setWidth 32 s) 127#32).toInt : ℝ)) : EReal)
  refine g_eq_pw _ _ hs ?_
  have : ∀ s : BitVec 8, (IntOp.subi (BitVec.setWidth 32 s) 127#32).toInt = (s.toNat : ℤ) - 127 := by decide +kernel
  exact this s

/-! ## The ratio is in range -/

theorem ofBits_c : Ideal.ofBits .f32 0x3b124925#32 = ((9586981 * (2 : ℝ) ^ (-32 : ℤ) : ℝ) : EReal) := by
  refine (ieee_of 23 0x3b124925#32 false 118 1198373 (by decide +kernel) (by decide +kernel) (by decide +kernel) (by decide) (by decide)).trans ?_
  norm_num

theorem ofBits_bf16max : Ideal.ofBits .bf16 0x7f7f#16 = ((255 * (2 : ℝ) ^ (120 : ℤ) : ℝ) : EReal) := by
  refine (ieee_of 7 0x7f7f#16 false 254 127 (by decide +kernel) (by decide +kernel) (by decide +kernel) (by decide) (by decide)).trans ?_
  norm_num

theorem ofBits_ninf : Ideal.ofBits .f32 0xFF800000#32 = ⊥ := ieee_bot 0xFF800000#32 (by decide +kernel) (by decide +kernel) (by decide +kernel)

theorem ratio_range {ι : Type*} [Fintype ι] [Nonempty ι] (f : ι → EReal) (h : ∀ i, 0 ≤ f i ∧ f i ≤ Ideal.ofBits .bf16 0x7F7F#16) :
    0 ≤ Finset.univ.fold max (Ideal.ofBits .f32 0xFF800000#32) f * Ideal.ofBits .f32 0x3B124925#32
      ∧ Finset.univ.fold max (Ideal.ofBits .f32 0xFF800000#32) f * Ideal.ofBits .f32 0x3B124925#32 < g 254 := by
  rw [ofBits_ninf]
  have a0 : 0 ≤ Finset.univ.fold max ⊥ f := by
    rw [Finset.le_fold_max]
    exact Or.inr ⟨Classical.arbitrary ι, Finset.mem_univ _, (h _).1⟩
  have a1 : Finset.univ.fold max ⊥ f ≤ Ideal.ofBits .bf16 0x7F7F#16 := by
    rw [Finset.fold_max_le]
    exact ⟨bot_le, fun i _ => (h i).2⟩
  rw [ofBits_bf16max] at a1
  rw [ofBits_c, g_mid (by omega) (by omega)]
  generalize Finset.univ.fold max ⊥ f = m at a0 a1
  induction m with
  | bot => simp at a0
  | top => exact absurd a1 (not_le.mpr (EReal.coe_lt_top _))
  | coe r =>
    rw [← EReal.coe_mul]
    have a0' : 0 ≤ r := by exact_mod_cast a0
    rw [EReal.coe_le_coe_iff] at a1
    refine ⟨by exact_mod_cast (by positivity), ?_⟩
    rw [EReal.coe_lt_coe_iff]
    norm_num at a1 ⊢
    nlinarith

end Cert.Quant

end
-- ==== Proof.RefValues.lean ====
/- The three results of the idealized reference after its run, entry by entry. -/
module

public import proofs.«01_k».proof.Proof.Gen.ReferenceIdeal.Frame
public import proofs.«01_k».proof.Proof.Quant
public import proofs.«01_k».proof.Proof.Weights
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL.Sem
open Idealize.ShloMosaic.Pipeline (Dat)

/-! # What the reference's three result arrays hold -/

theorem off0 : (![0, 0] : Fin 2 → ℕ) = fun _ => 0 := by funext a; fin_cases a <;> rfl

/-- The greatest magnitude of a row over 448. -/
def rowRatio (X : FVec Ideal S256x1920 .bf16) (r : Fin 256) : EReal :=
  Finset.univ.fold max (Ideal.ofBits .f32 0xFF800000#32) (fun k : Fin 1920 => (FloatOps.absf (X (ix2 r k)) : Ideal .f32)) * Ideal.ofBits .f32 0x3B124925#32

section
variable (X : FVec Ideal S256x1920 .bf16) (x1 : FVec Ideal S23680x1920 .fp8e4m3) (x2 : IVec S23680x60 8) (x3 : FVec Ideal S23680x1920 .fp8e4m3) (x4 : IVec S23680x60 8)

theorem expo_apply (r : Fin 256) : k0_pay3 (F := Ideal) X (ix2 r 0) = Quant.exR (rowRatio X r) := by
  unfold Quant.exR rowRatio
  pointwise [k0_pay3, k0_pay2]

theorem codes_apply (r : Fin 256) (k : Fin 1920) : k0_pay4 (F := Ideal) X (ix2 r k)
    = min (Ideal.ofBits .f32 0x43E00000#32) (max (Ideal.ofBits .f32 0xC3E00000#32) ((X (ix2 r k) : EReal) * Quant.pw (0 - Quant.exR (rowRatio X r)))) := by
  rw [← expo_apply]
  unfold Quant.pw
  pointwise [k0_pay4, k0_pay2]
  rfl

theorem scale_apply (r : Fin 256) : k0_pay8 (F := Ideal) (k0_pay5 (F := Ideal) X) (k0_pay6 (F := Ideal) X) (k0_pay7 (F := Ideal) X) (FloatOps.ofBits .f32 0#32) (ix2 r 0)
    = Quant.pw (Quant.exR (rowRatio X r)) := by
  rw [← expo_apply]
  unfold Quant.pw
  pointwise [k0_pay8, k0_pay5, k0_pay6, k0_pay7]
  rfl

theorem out6_apply (r : Fin 256) (k : Fin 1920) : out0_6 (F := Ideal) X x1 x2 x3 x4 (ix2 r k)
    = min (Ideal.ofBits .f32 0x43E00000#32) (max (Ideal.ofBits .f32 0xC3E00000#32) ((X (ix2 r k) : EReal) * Quant.pw (0 - Quant.exR (rowRatio X r)))) := by
  unfold_out out0_6
  rw [View.canon_unit_zero off0, View.ld_unit_zero off0]
  exact codes_apply X r k

theorem out7_apply (r : Fin 256) : out0_7 (F := Ideal) X x1 x2 x3 x4 (ix2 r 0) = Quant.pw (Quant.exR (rowRatio X r)) := by
  unfold_out out0_7
  rw [View.canon_unit_zero off0, View.ld_unit_zero off0]
  exact scale_apply X r

/-- A weight: the code times two to its block's scale byte less 127. -/
def wR (w : FVec Ideal S23680x1920 .fp8e4m3) (s : IVec S23680x60 8) (n : Fin 23680) (k : Fin 1920) : EReal :=
  (w (ix2 n k) : EReal) * Quant.pw (FloatOps.sitofp .f32 (IntOp.subi (BitVec.setWidth 32 (s (ix2 n ⟨k.val / 32, by have := k.isLt; omega⟩))) 127#32) : Ideal .f32)

set_option maxHeartbeats 1600000 in
theorem out5_apply (r : Fin 256) (n : Fin 23680) : out0_5 (F := Ideal) X x1 x2 x3 x4 (ix2 r n)
    = Cert.KernelIdeal.Hand.yAt (Quant.pw (Quant.exR (rowRatio X r))) (fun k => k0_pay4 (F := Ideal) X (ix2 r k)) (wR x1 x2 n) (wR x3 x4 n) := by
  rw [← scale_apply]
  unfold_out out0_5
  rw [View.canon_unit_zero off0, View.ld_unit_zero off0, View.ld_unit_zero off0, View.ld_unit_zero off0, View.ld_unit_zero off0, View.ld_unit_zero off0]
  unfold Cert.KernelIdeal.Hand.yAt wR Quant.pw
  pointwise [k0_pay1, k0_pay9, k0_pay10, k0_pay11, k0_pay12, k0_pay13]
  rfl
end

variable (m : (ℓ : Loc nD τ sig) → Buf (Elt Ideal) ℓ)

/-- The activations. -/
abbrev XR (c : Dev nD) : FVec Ideal S256x1920 .bf16 := shapeCast S256x1920 (m ((c : Thread nD τ).loc main_arg0)) shapeCasts_S1x256x1920_S256x1920

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem blk0 (c : Dev nD) (t : Fin cfg0.N) : iblk m c 0 t = XR m c := by
  funext y
  blk_simp [iblk]
  entry_read
  refine congrArg (XR m c) ?_
  blk_ext [idx t]
theorem blk1 (c : Dev nD) (t : Fin cfg0.N) : iblk m c 1 t = m ((c : Thread nD τ).loc main_arg1) := by
  blk_ext! [iblk, V, idx t]
theorem blk2 (c : Dev nD) (t : Fin cfg0.N) : iblk m c 2 t = m ((c : Thread nD τ).loc main_arg2) := by
  blk_ext! [iblk, V, idx t]
theorem blk3 (c : Dev nD) (t : Fin cfg0.N) : iblk m c 3 t = m ((c : Thread nD τ).loc main_arg3) := by
  blk_ext! [iblk, V, idx t]
theorem blk4 (c : Dev nD) (t : Fin cfg0.N) : iblk m c 4 t = m ((c : Thread nD τ).loc main_arg4) := by
  blk_ext! [iblk, V, idx t]

theorem final5 (c : Dev nD) : (dats m 0 c).arrAt 5 (cfgs 0).N = out0_5 (F := Ideal) (XR m c) (m ((c : Thread nD τ).loc main_arg1)) (m ((c : Thread nD τ).loc main_arg2)) (m ((c : Thread nD τ).loc main_arg3)) (m ((c : Thread nD τ).loc main_arg4)) := by
  refine (dats m 0 c).arrAt_eq_of_after_last 5 t0_0 (by decide +kernel) _ fun j => ?_
  blk_simp
  rw [after0_5, blk0, blk1, blk2, blk3, blk4]

theorem final6 (c : Dev nD) : (dats m 0 c).arrAt 6 (cfgs 0).N = out0_6 (F := Ideal) (XR m c) (m ((c : Thread nD τ).loc main_arg1)) (m ((c : Thread nD τ).loc main_arg2)) (m ((c : Thread nD τ).loc main_arg3)) (m ((c : Thread nD τ).loc main_arg4)) := by
  refine (dats m 0 c).arrAt_eq_of_after_last 6 t0_0 (by decide +kernel) _ fun j => ?_
  blk_simp
  rw [after0_6, blk0, blk1, blk2, blk3, blk4]

theorem final7 (c : Dev nD) : (dats m 0 c).arrAt 7 (cfgs 0).N = out0_7 (F := Ideal) (XR m c) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_0 (by decide +kernel) _ fun j => ?_
  blk_simp
  rw [after0_7, blk0, blk1, blk2, blk3, blk4]

end Cert.ReferenceIdeal.Hand

end
-- ==== Proof.Equal.lean ====
/- The kernel's three results are the reference's, for activations that are finite. -/
module

public import proofs.«01_k».proof.Proof.Values
public import proofs.«01_k».proof.Proof.RefValues

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

/-! # The kernel's results and the reference's are the same, for finite activations -/

theorem ratio_apply (X : FVec Ideal S256x1920 .bf16) (r : Fin 256) : ratio (F := Ideal) X (ix2 r 0) = Cert.ReferenceIdeal.Hand.rowRatio X r := by
  unfold Cert.ReferenceIdeal.Hand.rowRatio
  pointwise [ratio]

theorem step_apply (k : BitVec 32) (t : FVec Ideal S256x1 .f32) (b : IVec S256x1 32) (r : Fin 256) :
    step (F := Ideal) k t b (ix2 r 0) = Quant.stepS k (t (ix2 r 0)) (b (ix2 r 0)) := by
  unfold Quant.stepS
  pointwise [step]

theorem field_apply (t : FVec Ideal S256x1 .f32) (r : Fin 256) : field (F := Ideal) t (ix2 r 0) = Quant.fieldS (t (ix2 r 0)) := by
  unfold field Quant.fieldS
  rw [step_apply, step_apply, step_apply, step_apply, step_apply, step_apply, step_apply, step_apply]
  rfl

theorem expo_apply (t : FVec Ideal S256x1 .f32) (r : Fin 256) : expo (F := Ideal) t (ix2 r 0) = Quant.expoS (t (ix2 r 0)) := by
  unfold Quant.expoS
  rw [← field_apply]
  pointwise [expo]

theorem scaleVec_apply (e : IVec S256x1 32) (r : Fin 256) :
    scaleVec (F := Ideal) e (ix2 r 0) = Ideal.ofBits .f32 (IntOp.shli .vector (IntOp.addi (e (ix2 r 0)) 127#32) 23#32) := by
  pointwise [scaleVec]

theorem codesVec_apply (X : FVec Ideal S256x1920 .bf16) (e : IVec S256x1 32) (r : Fin 256) (k : Fin 1920) :
    codesVec (F := Ideal) X e (ix2 r k) = min (Ideal.ofBits .f32 0x43E00000#32) (max (Ideal.ofBits .f32 0xC3E00000#32)
      ((X (ix2 r k) : EReal) * Ideal.ofBits .f32 (IntOp.shli .vector (IntOp.subi 127#32 (e (ix2 r 0))) 23#32))) := by
  pointwise [codesVec]

section
variable (X : FVec Ideal S256x1920 .bf16) (hX : ∀ (r : Fin 256) (k : Fin 1920), (FloatOps.absf (X (ix2 r k)) : Ideal .f32) ≤ Ideal.ofBits .bf16 0x7F7F#16)
variable (x1 : FVec Ideal S23680x1920 .fp8e4m3) (x2 : IVec S23680x60 8) (x3 : FVec Ideal S23680x1920 .fp8e4m3) (x4 : IVec S23680x60 8)

theorem absf_nonneg (x : EReal) : 0 ≤ (FloatOps.absf (x : Ideal .f32) : Ideal .f32) := by
  show (0 : EReal) ≤ max x (-x)
  rcases le_total 0 x with h | h
  · exact le_max_of_le_left h
  · exact le_max_of_le_right (EReal.neg_nonneg.mpr h)

include hX in
theorem range (r : Fin 256) : 0 ≤ Cert.ReferenceIdeal.Hand.rowRatio X r ∧ Cert.ReferenceIdeal.Hand.rowRatio X r < Quant.g 254 :=
  Quant.ratio_range _ fun k => ⟨absf_nonneg _, hX r k⟩

include hX in
theorem scale_eq (r : Fin 256) : scaleK X (ix2 r 0) = Quant.pw (Quant.exR (Cert.ReferenceIdeal.Hand.rowRatio X r)) := by
  unfold scaleK
  rw [scaleVec_apply, expo_apply, ratio_apply]
  exact Quant.scale_eq (range X hX r).1 (range X hX r).2

include hX in
theorem codes_eq (r : Fin 256) (k : Fin 1920) : codesK X (ix2 r k) = Cert.ReferenceIdeal.Gen.k0_pay4 (F := Ideal) X (ix2 r k) := by
  unfold codesK
  rw [codesVec_apply, expo_apply, ratio_apply, Quant.inv_eq (range X hX r).1 (range X hX r).2]
  exact (Cert.ReferenceIdeal.Hand.codes_apply X r k).symm

include hX in
/-- The second result. -/
theorem eq6 : codesK X = Cert.ReferenceIdeal.Gen.out0_6 (F := Ideal) X x1 x2 x3 x4 := by
  funext i
  obtain ⟨r, k, rfl⟩ : ∃ (r : Fin 256) (k : Fin 1920), i = ix2 r k := ⟨i 0, i 1, eq_ix2 i⟩
  exact (codes_eq X hX r k).trans ((Cert.ReferenceIdeal.Hand.codes_apply X r k).trans (Cert.ReferenceIdeal.Hand.out6_apply X x1 x2 x3 x4 r k).symm)

include hX in
/-- The third result. -/
theorem eq7 : scaleK X = Cert.ReferenceIdeal.Gen.out0_7 (F := Ideal) X x1 x2 x3 x4 := by
  funext i
  obtain ⟨r, rfl⟩ : ∃ (r : Fin 256), i = ix2 r 0 := ⟨i 0, (eq_ix2 i).trans (congrArg (ix2 (i 0)) (Subsingleton.elim (α := Fin 1) _ _))⟩
  exact (scale_eq X hX r).trans (Cert.ReferenceIdeal.Hand.out7_apply X x1 x2 x3 x4 r).symm

theorem weight_eq (w : FVec Ideal S23680x1920 .fp8e4m3) (s : IVec S23680x60 8) (n : Fin 23680) : wAt (N := 23680) w s n = Cert.ReferenceIdeal.Hand.wR w s n := by
  funext k
  unfold wAt Cert.ReferenceIdeal.Hand.wR
  rw [Quant.byte_eq]

include hX in
/-- The first result. -/
theorem eq5 : yK X x1 x2 x3 x4 = Cert.ReferenceIdeal.Gen.out0_5 (F := Ideal) X x1 x2 x3 x4 := by
  funext i
  obtain ⟨r, n, rfl⟩ : ∃ (r : Fin 256) (n : Fin 23680), i = ix2 r n := ⟨i 0, i 1, eq_ix2 i⟩
  refine Eq.trans ?_ (Cert.ReferenceIdeal.Hand.out5_apply X x1 x2 x3 x4 r n).symm
  show yAt (scaleK X (ix2 r 0)) (fun k => codesK X (ix2 r k)) (wAt (N := 23680) x1 x2 n) (wAt (N := 23680) x3 x4 n) = _
  rw [scale_eq X hX, weight_eq, weight_eq, funext fun k => codes_eq X hX r k]
end

end Cert.KernelIdeal.Hand

end
-- ==== Proof.lean ====
module

public import proofs.«01_k».proof.Defs
public import proofs.«01_k».proof.Proof.Gen.Kernel.Frame
public import proofs.«01_k».proof.Proof.KernelPipe
public import proofs.«01_k».proof.Proof.Gen.ReferenceIdeal.Frame
public import proofs.«01_k».proof.Proof.Pipe
public import proofs.«01_k».proof.Proof.Values
public import proofs.«01_k».proof.Proof.RefValues
public import proofs.«01_k».proof.Proof.Equal
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

theorem preFacts : Cert.Pre_x_is_finite.Facts := ⟨by decide⟩

instance instKernel : Cert.Kernel.Facts := Cert.Kernel.Gen.facts
instance instKernelIdeal : Cert.KernelIdeal.Facts := Cert.KernelIdeal.Gen.facts
instance instReferenceIdeal : Cert.ReferenceIdeal.Facts := Cert.ReferenceIdeal.Gen.facts
instance instPre : Cert.Pre_x_is_finite.Facts := preFacts

section
open Cert.KernelIdeal Cert.KernelIdeal.Hand

/-- The precondition at an entry of the activations. -/
theorem finite_at (X : FVec Ideal S1x256x1920 .bf16) (x1 : FVec Ideal S23680x1920 .fp8e4m3) (x2 : IVec S23680x60 8) (x3 : FVec Ideal S23680x1920 .fp8e4m3) (x4 : IVec S23680x60 8)
    (h : Cert.Pre_x_is_finite.fn (F := Ideal) X x1 x2 x3 x4 = fun _ => 1#1) (i : S1x256x1920.Idx) :
    (FloatOps.absf (X i : Ideal .bf16) : Ideal .bf16) ≤ Ideal.ofBits .bf16 0x7F7F#16 := by
  have h1 : Ideal.cmp .ole (FloatOps.absf (X i : Ideal .bf16) : Ideal .bf16) (Ideal.ofBits .bf16 0x7F7F#16) = 1#1 := congrFun h i
  by_contra hc
  rw [show Ideal.cmp .ole (FloatOps.absf (X i : Ideal .bf16) : Ideal .bf16) (Ideal.ofBits .bf16 0x7F7F#16) = BitVec.ofBool (decide ((FloatOps.absf (X i : Ideal .bf16) : Ideal .bf16) ≤ Ideal.ofBits .bf16 0x7F7F#16)) from rfl,
    decide_eq_false hc] at h1
  exact absurd h1 (by decide)

/-- The same as the kernel reads them. -/
theorem finite (m : (ℓ : Loc nD τ sig) → Buf (Elt Ideal) ℓ) (c : Dev nD)
    (h : Cert.Pre_x_is_finite.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = fun _ => 1#1) (r : Fin 256) (k : Fin 1920) :
    (FloatOps.absf (XK m c (ix2 r k)) : Ideal .f32) ≤ Ideal.ofBits .bf16 0x7F7F#16 :=
  finite_at _ _ _ _ _ h _

end

theorem algebraic : Cert.algebraic_KernelIdeal_ReferenceIdeal_pre_x_is_finite := by
  pair_intro
  · run_from Cert.KernelIdeal.Hand.run_main m g
  · have hx : ∀ c, Cert.ReferenceIdeal.Hand.XR m' c = Cert.KernelIdeal.Hand.XK m c := fun c => congrArg (fun X => shapeCast Cert.KernelIdeal.S256x1920 X Cert.KernelIdeal.Gen.shapeCasts_S1x256x1920_S256x1920) (hagree c).1
    run_from Cert.ReferenceIdeal.Gen.run_main m' g'
    · rw [Cert.ReferenceIdeal.Hand.final5 m' c, hx]
      refine Eq.trans ?_ (Cert.KernelIdeal.Hand.final5 m c).symm
      rw [(hagree c).2.1, (hagree c).2.2.1, (hagree c).2.2.2.1, (hagree c).2.2.2.2]
      exact (Cert.KernelIdeal.Hand.eq5 (Cert.KernelIdeal.Hand.XK m c) (finite m c (hpre c)) _ _ _ _).symm
    · rw [Cert.ReferenceIdeal.Hand.final6 m' c, hx]
      refine Eq.trans ?_ (Cert.KernelIdeal.Hand.final6 m c).symm
      rw [(hagree c).2.1, (hagree c).2.2.1, (hagree c).2.2.2.1, (hagree c).2.2.2.2]
      exact (Cert.KernelIdeal.Hand.eq6 (Cert.KernelIdeal.Hand.XK m c) (finite m c (hpre c)) _ _ _ _).symm
    · rw [Cert.ReferenceIdeal.Hand.final7 m' c, hx]
      refine Eq.trans ?_ (Cert.KernelIdeal.Hand.final7 m c).symm
      rw [(hagree c).2.1, (hagree c).2.2.1, (hagree c).2.2.2.1, (hagree c).2.2.2.2]
      exact (Cert.KernelIdeal.Hand.eq7 (Cert.KernelIdeal.Hand.XK m c) (finite m c (hpre c)) _ _ _ _).symm

theorem claim : Cert.Claim :=
  ⟨instKernel, instKernelIdeal, instReferenceIdeal, instPre,
    fun m ρ _ => Cert.Kernel.Hand.frame m ρ, fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ, trivial, algebraic⟩

end Cert.Proof

end
